-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x512x3 : Shape := ⟨4, ![128, 512, 512, 3]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x512x1536 : Shape := ⟨3, ![128, 512, 1536]⟩
abbrev S1536 : Shape := ⟨1, ![1536]⟩
abbrev S1x1536 : Shape := ⟨2, ![1, 1536]⟩
abbrev S_ : Shape := ⟨0, ![]⟩
abbrev S1536x1 : Shape := ⟨2, ![1536, 1]⟩
abbrev S1536x1536 : Shape := ⟨2, ![1536, 1536]⟩
abbrev S128x8x8x256 : Shape := ⟨4, ![128, 8, 8, 256]⟩
abbrev S128x512x512 : Shape := ⟨3, ![128, 512, 512]⟩
abbrev S1x64x1536 : Shape := ⟨3, ![1, 64, 1536]⟩
abbrev S1x1x8x256 : Shape := ⟨4, ![1, 1, 8, 256]⟩
abbrev S1x64x512 : Shape := ⟨3, ![1, 64, 512]⟩
abbrev S64x1536 : Shape := ⟨2, ![64, 1536]⟩
abbrev S64x512 : Shape := ⟨2, ![64, 512]⟩
abbrev S64x64x256 : Shape := ⟨3, ![64, 64, 256]⟩
abbrev S64x64 : Shape := ⟨2, ![64, 64]⟩
abbrev S64x64x1 : Shape := ⟨3, ![64, 64, 1]⟩
abbrev S1x1x256 : Shape := ⟨3, ![1, 1, 256]⟩
abbrev S1 : Shape := ⟨1, ![1]⟩
abbrev S1x1x1 : Shape := ⟨3, ![1, 1, 1]⟩
abbrev S8x256 : Shape := ⟨2, ![8, 256]⟩
abbrev S1x32x512 : Shape := ⟨3, ![1, 32, 512]⟩
abbrev S1x32x1536 : Shape := ⟨3, ![1, 32, 1536]⟩
abbrev S32x512 : Shape := ⟨2, ![32, 512]⟩
abbrev S32x1 : Shape := ⟨2, ![32, 1]⟩
abbrev S1x32 : Shape := ⟨2, ![1, 32]⟩
abbrev S32x256 : Shape := ⟨2, ![32, 256]⟩
abbrev S32x32 : Shape := ⟨2, ![32, 32]⟩
abbrev S32x32x256 : Shape := ⟨3, ![32, 32, 256]⟩
abbrev S32x32x1 : Shape := ⟨3, ![32, 32, 1]⟩
abbrev S32x1x256 : Shape := ⟨3, ![32, 1, 256]⟩
abbrev S32x512x1 : Shape := ⟨3, ![32, 512, 1]⟩
abbrev S32x512x3 : Shape := ⟨3, ![32, 512, 3]⟩
abbrev S32x1536 : Shape := ⟨2, ![32, 1536]⟩

abbrev nBuf : Space → Nat
  | .hbm => 66
  | .vmem => 16
  | .smem => 0
  | _ => 0

abbrev bufTy : (tb : Table) → Fin (tcTables nBuf tb) → BufTy
  | .hbm, ⟨0, _⟩ => ⟨S128x512x512x3, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S128x512x1536, .f32⟩
  | .hbm, ⟨10, _⟩ => ⟨S1536, .i32⟩
  | .hbm, ⟨11, _⟩ => ⟨S1536, .i32⟩
  | .hbm, ⟨12, _⟩ => ⟨S1x1536, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S1536, .i32⟩
  | .hbm, ⟨20, _⟩ => ⟨S1536, .i32⟩
  | .hbm, ⟨21, _⟩ => ⟨S_, .i32⟩
  | .hbm, ⟨22, _⟩ => ⟨S1536, .i32⟩
  | .hbm, ⟨23, _⟩ => ⟨S1536, .i1⟩
  | .hbm, ⟨24, _⟩ => ⟨S_, .i32⟩
  | .hbm, ⟨25, _⟩ => ⟨S1536, .i32⟩
  | .hbm, ⟨26, _⟩ => ⟨S1536, .i1⟩
  | .hbm, ⟨27, _⟩ => ⟨S_, .i32⟩
  | .hbm, ⟨28, _⟩ => ⟨S_, .i1⟩
  | .hbm, ⟨29, _⟩ => ⟨S1536, .i1⟩
  | .hbm, ⟨30, _⟩ => ⟨S1536, .i1⟩
  | .hbm, ⟨31, _⟩ => ⟨S1536, .i1⟩
  | .hbm, ⟨32, _⟩ => ⟨S1536, .i32⟩
  | .hbm, ⟨33, _⟩ => ⟨S1536, .i32⟩
  | .hbm, ⟨34, _⟩ => ⟨S1536, .i32⟩
  | .hbm, ⟨35, _⟩ => ⟨S_, .i32⟩
  | .hbm, ⟨36, _⟩ => ⟨S1536, .i32⟩
  | .hbm, ⟨37, _⟩ => ⟨S1536, .i32⟩
  | .hbm, ⟨38, _⟩ => ⟨S_, .i32⟩
  | .hbm, ⟨39, _⟩ => ⟨S_, .i32⟩
  | .hbm, ⟨40, _⟩ => ⟨S1536, .i32⟩
  | .hbm, ⟨41, _⟩ => ⟨S1536, .i32⟩
  | .hbm, ⟨42, _⟩ => ⟨S1536, .i32⟩
  | .hbm, ⟨43, _⟩ => ⟨S_, .i32⟩
  | .hbm, ⟨44, _⟩ => ⟨S1536, .i32⟩
  | .hbm, ⟨45, _⟩ => ⟨S1536, .i1⟩
  | .hbm, ⟨46, _⟩ => ⟨S1536, .i32⟩
  | .hbm, ⟨47, _⟩ => ⟨S1536, .i32⟩
  | .hbm, ⟨48, _⟩ => ⟨S_, .i32⟩
  | .hbm, ⟨49, _⟩ => ⟨S1536, .i32⟩
  | .hbm, ⟨50, _⟩ => ⟨S1536, .i1⟩
  | .hbm, ⟨51, _⟩ => ⟨S1536, .i1⟩
  | .hbm, ⟨52, _⟩ => ⟨S_, .i32⟩
  | .hbm, ⟨53, _⟩ => ⟨S1536, .i32⟩
  | .hbm, ⟨54, _⟩ => ⟨S1536, .i32⟩
  | .hbm, ⟨55, _⟩ => ⟨S1536, .i32⟩
  | .hbm, ⟨56, _⟩ => ⟨S1536, .i32⟩
  | .hbm, ⟨57, _⟩ => ⟨S1536x1, .i32⟩
  | .hbm, ⟨58, _⟩ => ⟨S1536x1536, .i32⟩
  | .hbm, ⟨59, _⟩ => ⟨S1536x1536, .i32⟩
  | .hbm, ⟨60, _⟩ => ⟨S1536x1536, .i1⟩
  | .hbm, ⟨61, _⟩ => ⟨S1536x1536, .bf16⟩
  | .hbm, ⟨62, _⟩ => ⟨S128x8x8x256, .f32⟩
  | .hbm, ⟨63, _⟩ => ⟨S128x512x512, .f32⟩
  | .hbm, ⟨64, _⟩ => ⟨S128x512x1536, .f32⟩
  | .hbm, ⟨65, _⟩ => ⟨S128x512x512x3, .f32⟩
  | .local _ .vmem, ⟨0, _⟩ => ⟨S1x64x1536, .f32⟩
  | .local _ .vmem, ⟨1, _⟩ => ⟨S1x64x1536, .f32⟩
  | .local _ .vmem, ⟨2, _⟩ => ⟨S1536x1536, .bf16⟩
  | .local _ .vmem, ⟨3, _⟩ => ⟨S256x256, .f32⟩
  | .local _ .vmem, ⟨4, _⟩ => ⟨S1x1x8x256, .f32⟩
  | .local _ .vmem, ⟨5, _⟩ => ⟨S1x1x8x256, .f32⟩
  | .local _ .vmem, ⟨6, _⟩ => ⟨S1x64x512, .f32⟩
  | .local _ .vmem, ⟨7, _⟩ => ⟨S1x64x512, .f32⟩
  | .local _ .vmem, ⟨8, _⟩ => ⟨S1x32x512, .f32⟩
  | .local _ .vmem, ⟨9, _⟩ => ⟨S1x32x512, .f32⟩
  | .local _ .vmem, ⟨10, _⟩ => ⟨S1x1x8x256, .f32⟩
  | .local _ .vmem, ⟨11, _⟩ => ⟨S1x1x8x256, .f32⟩
  | .local _ .vmem, ⟨12, _⟩ => ⟨S1x1x8x256, .f32⟩
  | .local _ .vmem, ⟨13, _⟩ => ⟨S1x1x8x256, .f32⟩
  | .local _ .vmem, ⟨14, _⟩ => ⟨S1x32x1536, .f32⟩
  | .local _ .vmem, ⟨15, _⟩ => ⟨S1x32x1536, .f32⟩
  | _, _ => ⟨S128x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22_0 : Ref sig .tc := ⟨.hbm, 62, rfl⟩
abbrev main_v22_1 : Ref sig .tc := ⟨.hbm, 63, rfl⟩
abbrev main_v23 : Ref sig .tc := ⟨.hbm, 64, rfl⟩
abbrev main_v24 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![128, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![128, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c7_i32 : BitVec 32 := 7#32
  let v18 : BitVec 32 := Scalar.maxsi c0_i32_5 v17
  let v19 : BitVec 32 := Scalar.minsi c7_i32 v18
  let c0_i32_6 : BitVec 32 := 0#32
  let c0_i32_7 : BitVec 32 := 0#32
  let c0_i32_8 : BitVec 32 := 0#32
  ![arg0.toNat, v19.toNat, c0_i32_6.toNat, c0_i32_7.toNat]

def cc1_transform_2 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.addi v17 c1_i32_5
  let c0_i32_6 : BitVec 32 := 0#32
  let c7_i32 : BitVec 32 := 7#32
  let v19 : BitVec 32 := Scalar.maxsi c0_i32_6 v18
  let v20 : BitVec 32 := Scalar.minsi c7_i32 v19
  let c0_i32_7 : BitVec 32 := 0#32
  let c0_i32_8 : BitVec 32 := 0#32
  let c0_i32_9 : BitVec 32 := 0#32
  ![arg0.toNat, v20.toNat, c0_i32_7.toNat, c0_i32_8.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S128x512x512x3 : Shape := ⟨4, ![128, 512, 512, 3]⟩
abbrev S_ : Shape := ⟨0, ![]⟩
abbrev S128x512x512x1 : Shape := ⟨4, ![128, 512, 512, 1]⟩
abbrev S128x512x512 : Shape := ⟨3, ![128, 512, 512]⟩
abbrev S128x8x64x8x64 : Shape := ⟨5, ![128, 8, 64, 8, 64]⟩
abbrev S128x8x8x64x64 : Shape := ⟨5, ![128, 8, 8, 64, 64]⟩
abbrev S8192x4096 : Shape := ⟨2, ![8192, 4096]⟩
abbrev S8192 : Shape := ⟨1, ![8192]⟩
abbrev S8192x1 : Shape := ⟨2, ![8192, 1]⟩
abbrev S2097152 : Shape := ⟨1, ![2097152]⟩
abbrev S33554432 : Shape := ⟨1, ![33554432]⟩
abbrev S33554432x1 : Shape := ⟨2, ![33554432, 1]⟩
abbrev S128x8x8x256 : Shape := ⟨4, ![128, 8, 8, 256]⟩
abbrev S128x8x8 : Shape := ⟨3, ![128, 8, 8]⟩
abbrev S128x8x8x1 : Shape := ⟨4, ![128, 8, 8, 1]⟩
abbrev S512 : Shape := ⟨1, ![512]⟩
abbrev S128 : Shape := ⟨1, ![128]⟩
abbrev S128x1x1 : Shape := ⟨3, ![128, 1, 1]⟩
abbrev S1x512x1 : Shape := ⟨3, ![1, 512, 1]⟩
abbrev S1x1x512 : Shape := ⟨3, ![1, 1, 512]⟩
abbrev S128x512x512x4 : Shape := ⟨4, ![128, 512, 512, 4]⟩
abbrev S128x512x512x1x3 : Shape := ⟨5, ![128, 512, 512, 1, 3]⟩

abbrev nBuf : Space → Nat
  | .hbm => 347
  | .vmem => 0
  | .smem => 0
  | _ => 0

abbrev hbmTy0_0 (i : Nat) : BufTy := match i % 128 with
  | 0 => ⟨S128x512x512x3, .f32⟩
  | 1 => ⟨S_, .f32⟩
  | 2 => ⟨S_, .f32⟩
  | 3 => ⟨S_, .f32⟩
  | 4 => ⟨S128x512x512x3, .f32⟩
  | 5 => ⟨S128x512x512x3, .f32⟩
  | 6 => ⟨S_, .f32⟩
  | 7 => ⟨S128x512x512x3, .f32⟩
  | 8 => ⟨S128x512x512x3, .f32⟩
  | 9 => ⟨S128x512x512x3, .i32⟩
  | 10 => ⟨S128x512x512x1, .i32⟩
  | 11 => ⟨S128x512x512, .i32⟩
  | 12 => ⟨S128x512x512x1, .i32⟩
  | 13 => ⟨S128x512x512, .i32⟩
  | 14 => ⟨S128x512x512x1, .i32⟩
  | 15 => ⟨S128x512x512, .i32⟩
  | 16 => ⟨S128x512x512, .f32⟩
  | 17 => ⟨S_, .f32⟩
  | 18 => ⟨S128x512x512, .f32⟩
  | 19 => ⟨S128x512x512, .f32⟩
  | 20 => ⟨S128x512x512, .f32⟩
  | 21 => ⟨S_, .f32⟩
  | 22 => ⟨S128x512x512, .f32⟩
  | 23 => ⟨S128x512x512, .f32⟩
  | 24 => ⟨S128x512x512, .f32⟩
  | 25 => ⟨S128x512x512, .f32⟩
  | 26 => ⟨S_, .f32⟩
  | 27 => ⟨S128x512x512, .f32⟩
  | 28 => ⟨S128x512x512, .f32⟩
  | 29 => ⟨S128x512x512, .f32⟩
  | 30 => ⟨S128x512x512, .f32⟩
  | 31 => ⟨S_, .f32⟩
  | 32 => ⟨S_, .f32⟩
  | 33 => ⟨S128x512x512, .f32⟩
  | 34 => ⟨S128x512x512, .f32⟩
  | 35 => ⟨S128x512x512, .f32⟩
  | 36 => ⟨S128x512x512, .f32⟩
  | 37 => ⟨S128x512x512, .i32⟩
  | 38 => ⟨S128x8x64x8x64, .i32⟩
  | 39 => ⟨S128x8x8x64x64, .i32⟩
  | 40 => ⟨S8192x4096, .i32⟩
  | 41 => ⟨S8192, .i32⟩
  | 42 => ⟨S8192x1, .i32⟩
  | 43 => ⟨S_, .i32⟩
  | 44 => ⟨S8192x1, .i32⟩
  | 45 => ⟨S8192x1, .i32⟩
  | 46 => ⟨S8192x4096, .i32⟩
  | 47 => ⟨S8192x4096, .i32⟩
  | 48 => ⟨S_, .f32⟩
  | 49 => ⟨S2097152, .f32⟩
  | 50 => ⟨S33554432, .i32⟩
  | 51 => ⟨S_, .i32⟩
  | 52 => ⟨S33554432, .i32⟩
  | 53 => ⟨S33554432, .i1⟩
  | 54 => ⟨S_, .i32⟩
  | 55 => ⟨S33554432, .i32⟩
  | 56 => ⟨S33554432, .i32⟩
  | 57 => ⟨S33554432, .i32⟩
  | 58 => ⟨S33554432x1, .i32⟩
  | 59 => ⟨S_, .f32⟩
  | 60 => ⟨S33554432, .f32⟩
  | 61 => ⟨S2097152, .f32⟩
  | 62 => ⟨S128x8x8x256, .f32⟩
  | 63 => ⟨S_, .f32⟩
  | 64 => ⟨S128x8x8x256, .f32⟩
  | 65 => ⟨S128x8x8x256, .f32⟩
  | 66 => ⟨S_, .f32⟩
  | 67 => ⟨S128x8x8x256, .f32⟩
  | 68 => ⟨S128x8x8x256, .f32⟩
  | 69 => ⟨S_, .f32⟩
  | 70 => ⟨S128x8x8, .f32⟩
  | 71 => ⟨S128x8x8x1, .f32⟩
  | 72 => ⟨S_, .f32⟩
  | 73 => ⟨S128x8x8x256, .f32⟩
  | 74 => ⟨S128x8x8x256, .f32⟩
  | 75 => ⟨S_, .f32⟩
  | 76 => ⟨S128x8x8x1, .f32⟩
  | 77 => ⟨S128x8x8x1, .f32⟩
  | 78 => ⟨S128x8x8x256, .f32⟩
  | 79 => ⟨S128x8x8x256, .f32⟩
  | 80 => ⟨S_, .f32⟩
  | 81 => ⟨S_, .f32⟩
  | 82 => ⟨S128x8x8x256, .f32⟩
  | 83 => ⟨S_, .f32⟩
  | 84 => ⟨S128x8x8x256, .f32⟩
  | 85 => ⟨S128x8x8x256, .f32⟩
  | 86 => ⟨S128x8x8x256, .f32⟩
  | 87 => ⟨S_, .f32⟩
  | 88 => ⟨S_, .f32⟩
  | 89 => ⟨S_, .f32⟩
  | 90 => ⟨S128x8x8x256, .f32⟩
  | 91 => ⟨S128x8x8x256, .f32⟩
  | 92 => ⟨S_, .f32⟩
  | 93 => ⟨S128x8x8x256, .f32⟩
  | 94 => ⟨S128x8x8x256, .f32⟩
  | 95 => ⟨S512, .f32⟩
  | 96 => ⟨S_, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S512, .i32⟩
  | 105 => ⟨S_, .i32⟩
  | 106 => ⟨S_, .i32⟩
  | 107 => ⟨S_, .i32⟩
  | 108 => ⟨S512, .i32⟩
  | 109 => ⟨S512, .i32⟩
  | 110 => ⟨S_, .i32⟩
  | 111 => ⟨S512, .i32⟩
  | 112 => ⟨S512, .i32⟩
  | 113 => ⟨S512, .i32⟩
  | 114 => ⟨S_, .i32⟩
  | 115 => ⟨S512, .i32⟩
  | 116 => ⟨S512, .i32⟩
  | 117 => ⟨S_, .i32⟩
  | 118 => ⟨S_, .i32⟩
  | 119 => ⟨S_, .i32⟩
  | 120 => ⟨S512, .i32⟩
  | 121 => ⟨S512, .i32⟩
  | 122 => ⟨S_, .i32⟩
  | 123 => ⟨S512, .i32⟩
  | 124 => ⟨S512, .i32⟩
  | 125 => ⟨S512, .f32⟩
  | 126 => ⟨S_, .f32⟩
  | 127 => ⟨S512, .f32⟩
  | _ => ⟨S128x512x512x3, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S512, .f32⟩
  | 5 => ⟨S512, .f32⟩
  | 6 => ⟨S512, .i32⟩
  | 7 => ⟨S_, .i32⟩
  | 8 => ⟨S_, .i32⟩
  | 9 => ⟨S_, .i32⟩
  | 10 => ⟨S512, .i32⟩
  | 11 => ⟨S512, .i32⟩
  | 12 => ⟨S_, .i32⟩
  | 13 => ⟨S512, .i32⟩
  | 14 => ⟨S512, .i32⟩
  | 15 => ⟨S512, .i32⟩
  | 16 => ⟨S_, .i32⟩
  | 17 => ⟨S512, .i32⟩
  | 18 => ⟨S512, .i32⟩
  | 19 => ⟨S_, .i32⟩
  | 20 => ⟨S_, .i32⟩
  | 21 => ⟨S_, .i32⟩
  | 22 => ⟨S512, .i32⟩
  | 23 => ⟨S512, .i32⟩
  | 24 => ⟨S_, .i32⟩
  | 25 => ⟨S512, .i32⟩
  | 26 => ⟨S512, .i32⟩
  | 27 => ⟨S128, .i32⟩
  | 28 => ⟨S128x1x1, .i32⟩
  | 29 => ⟨S1x512x1, .i32⟩
  | 30 => ⟨S1x512x1, .i32⟩
  | 31 => ⟨S1x1x512, .i32⟩
  | 32 => ⟨S1x1x512, .i32⟩
  | 33 => ⟨S_, .i32⟩
  | 34 => ⟨S128x1x1, .i32⟩
  | 35 => ⟨S128x1x1, .i1⟩
  | 36 => ⟨S_, .i32⟩
  | 37 => ⟨S128x1x1, .i32⟩
  | 38 => ⟨S128x1x1, .i32⟩
  | 39 => ⟨S128x1x1, .i32⟩
  | 40 => ⟨S_, .i32⟩
  | 41 => ⟨S1x512x1, .i32⟩
  | 42 => ⟨S1x512x1, .i1⟩
  | 43 => ⟨S_, .i32⟩
  | 44 => ⟨S1x512x1, .i32⟩
  | 45 => ⟨S1x512x1, .i32⟩
  | 46 => ⟨S1x512x1, .i32⟩
  | 47 => ⟨S_, .i32⟩
  | 48 => ⟨S1x1x512, .i32⟩
  | 49 => ⟨S1x1x512, .i1⟩
  | 50 => ⟨S_, .i32⟩
  | 51 => ⟨S1x1x512, .i32⟩
  | 52 => ⟨S1x1x512, .i32⟩
  | 53 => ⟨S1x1x512, .i32⟩
  | 54 => ⟨S_, .i32⟩
  | 55 => ⟨S128x512x512, .i32⟩
  | 56 => ⟨S128x512x512, .i1⟩
  | 57 => ⟨S_, .i32⟩
  | 58 => ⟨S128x512x512, .i32⟩
  | 59 => ⟨S128x512x512, .i32⟩
  | 60 => ⟨S128x512x512, .i32⟩
  | 61 => ⟨S128x512x512, .i32⟩
  | 62 => ⟨S128x512x512, .i32⟩
  | 63 => ⟨S128x512x512, .i32⟩
  | 64 => ⟨S128x512x512x1, .i32⟩
  | 65 => ⟨S128x512x512x1, .i32⟩
  | 66 => ⟨S128x512x512x1, .i32⟩
  | 67 => ⟨S128x512x512x1, .i32⟩
  | 68 => ⟨S128x512x512x4, .i32⟩
  | 69 => ⟨S128x512x512, .f32⟩
  | 70 => ⟨S_, .i32⟩
  | 71 => ⟨S128x1x1, .i32⟩
  | 72 => ⟨S128x1x1, .i1⟩
  | 73 => ⟨S_, .i32⟩
  | 74 => ⟨S128x1x1, .i32⟩
  | 75 => ⟨S128x1x1, .i32⟩
  | 76 => ⟨S128x1x1, .i32⟩
  | 77 => ⟨S_, .i32⟩
  | 78 => ⟨S1x512x1, .i32⟩
  | 79 => ⟨S1x512x1, .i1⟩
  | 80 => ⟨S_, .i32⟩
  | 81 => ⟨S1x512x1, .i32⟩
  | 82 => ⟨S1x512x1, .i32⟩
  | 83 => ⟨S1x512x1, .i32⟩
  | 84 => ⟨S_, .i32⟩
  | 85 => ⟨S1x1x512, .i32⟩
  | 86 => ⟨S1x1x512, .i1⟩
  | 87 => ⟨S_, .i32⟩
  | 88 => ⟨S1x1x512, .i32⟩
  | 89 => ⟨S1x1x512, .i32⟩
  | 90 => ⟨S1x1x512, .i32⟩
  | 91 => ⟨S_, .i32⟩
  | 92 => ⟨S128x512x512, .i32⟩
  | 93 => ⟨S128x512x512, .i1⟩
  | 94 => ⟨S_, .i32⟩
  | 95 => ⟨S128x512x512, .i32⟩
  | 96 => ⟨S128x512x512, .i32⟩
  | 97 => ⟨S128x512x512, .i32⟩
  | 98 => ⟨S128x512x512, .i32⟩
  | 99 => ⟨S128x512x512, .i32⟩
  | 100 => ⟨S128x512x512, .i32⟩
  | 101 => ⟨S128x512x512x1, .i32⟩
  | 102 => ⟨S128x512x512x1, .i32⟩
  | 103 => ⟨S128x512x512x1, .i32⟩
  | 104 => ⟨S128x512x512x1, .i32⟩
  | 105 => ⟨S128x512x512x4, .i32⟩
  | 106 => ⟨S128x512x512, .f32⟩
  | 107 => ⟨S_, .i32⟩
  | 108 => ⟨S128x1x1, .i32⟩
  | 109 => ⟨S128x1x1, .i1⟩
  | 110 => ⟨S_, .i32⟩
  | 111 => ⟨S128x1x1, .i32⟩
  | 112 => ⟨S128x1x1, .i32⟩
  | 113 => ⟨S128x1x1, .i32⟩
  | 114 => ⟨S_, .i32⟩
  | 115 => ⟨S1x512x1, .i32⟩
  | 116 => ⟨S1x512x1, .i1⟩
  | 117 => ⟨S_, .i32⟩
  | 118 => ⟨S1x512x1, .i32⟩
  | 119 => ⟨S1x512x1, .i32⟩
  | 120 => ⟨S1x512x1, .i32⟩
  | 121 => ⟨S_, .i32⟩
  | 122 => ⟨S1x1x512, .i32⟩
  | 123 => ⟨S1x1x512, .i1⟩
  | 124 => ⟨S_, .i32⟩
  | 125 => ⟨S1x1x512, .i32⟩
  | 126 => ⟨S1x1x512, .i32⟩
  | 127 => ⟨S1x1x512, .i32⟩
  | _ => ⟨S128x512x512x3, .f32⟩

abbrev hbmTy0_2 (i : Nat) : BufTy := match i % 128 with
  | 0 => ⟨S_, .i32⟩
  | 1 => ⟨S128x512x512, .i32⟩
  | 2 => ⟨S128x512x512, .i1⟩
  | 3 => ⟨S_, .i32⟩
  | 4 => ⟨S128x512x512, .i32⟩
  | 5 => ⟨S128x512x512, .i32⟩
  | 6 => ⟨S128x512x512, .i32⟩
  | 7 => ⟨S128x512x512, .i32⟩
  | 8 => ⟨S128x512x512, .i32⟩
  | 9 => ⟨S128x512x512, .i32⟩
  | 10 => ⟨S128x512x512x1, .i32⟩
  | 11 => ⟨S128x512x512x1, .i32⟩
  | 12 => ⟨S128x512x512x1, .i32⟩
  | 13 => ⟨S128x512x512x1, .i32⟩
  | 14 => ⟨S128x512x512x4, .i32⟩
  | 15 => ⟨S128x512x512, .f32⟩
  | 16 => ⟨S_, .i32⟩
  | 17 => ⟨S128x1x1, .i32⟩
  | 18 => ⟨S128x1x1, .i1⟩
  | 19 => ⟨S_, .i32⟩
  | 20 => ⟨S128x1x1, .i32⟩
  | 21 => ⟨S128x1x1, .i32⟩
  | 22 => ⟨S128x1x1, .i32⟩
  | 23 => ⟨S_, .i32⟩
  | 24 => ⟨S1x512x1, .i32⟩
  | 25 => ⟨S1x512x1, .i1⟩
  | 26 => ⟨S_, .i32⟩
  | 27 => ⟨S1x512x1, .i32⟩
  | 28 => ⟨S1x512x1, .i32⟩
  | 29 => ⟨S1x512x1, .i32⟩
  | 30 => ⟨S_, .i32⟩
  | 31 => ⟨S1x1x512, .i32⟩
  | 32 => ⟨S1x1x512, .i1⟩
  | 33 => ⟨S_, .i32⟩
  | 34 => ⟨S1x1x512, .i32⟩
  | 35 => ⟨S1x1x512, .i32⟩
  | 36 => ⟨S1x1x512, .i32⟩
  | 37 => ⟨S_, .i32⟩
  | 38 => ⟨S128x512x512, .i32⟩
  | 39 => ⟨S128x512x512, .i1⟩
  | 40 => ⟨S_, .i32⟩
  | 41 => ⟨S128x512x512, .i32⟩
  | 42 => ⟨S128x512x512, .i32⟩
  | 43 => ⟨S128x512x512, .i32⟩
  | 44 => ⟨S128x512x512, .i32⟩
  | 45 => ⟨S128x512x512, .i32⟩
  | 46 => ⟨S128x512x512, .i32⟩
  | 47 => ⟨S128x512x512x1, .i32⟩
  | 48 => ⟨S128x512x512x1, .i32⟩
  | 49 => ⟨S128x512x512x1, .i32⟩
  | 50 => ⟨S128x512x512x1, .i32⟩
  | 51 => ⟨S128x512x512x4, .i32⟩
  | 52 => ⟨S128x512x512, .f32⟩
  | 53 => ⟨S1x1x512, .f32⟩
  | 54 => ⟨S1x512x1, .f32⟩
  | 55 => ⟨S_, .f32⟩
  | 56 => ⟨S1x1x512, .f32⟩
  | 57 => ⟨S1x1x512, .f32⟩
  | 58 => ⟨S128x512x512, .f32⟩
  | 59 => ⟨S128x512x512, .f32⟩
  | 60 => ⟨S128x512x512, .f32⟩
  | 61 => ⟨S128x512x512, .f32⟩
  | 62 => ⟨S128x512x512, .f32⟩
  | 63 => ⟨S_, .f32⟩
  | 64 => ⟨S1x512x1, .f32⟩
  | 65 => ⟨S1x512x1, .f32⟩
  | 66 => ⟨S128x512x512, .f32⟩
  | 67 => ⟨S128x512x512, .f32⟩
  | 68 => ⟨S_, .f32⟩
  | 69 => ⟨S1x1x512, .f32⟩
  | 70 => ⟨S1x1x512, .f32⟩
  | 71 => ⟨S128x512x512, .f32⟩
  | 72 => ⟨S128x512x512, .f32⟩
  | 73 => ⟨S128x512x512, .f32⟩
  | 74 => ⟨S128x512x512, .f32⟩
  | 75 => ⟨S128x512x512, .f32⟩
  | 76 => ⟨S128x512x512, .f32⟩
  | 77 => ⟨S128x512x512, .f32⟩
  | 78 => ⟨S128x512x512, .f32⟩
  | 79 => ⟨S128x512x512, .f32⟩
  | 80 => ⟨S_, .f32⟩
  | 81 => ⟨S_, .f32⟩
  | 82 => ⟨S_, .f32⟩
  | 83 => ⟨S128x512x512, .f32⟩
  | 84 => ⟨S128x512x512, .f32⟩
  | 85 => ⟨S_, .f32⟩
  | 86 => ⟨S128x512x512, .f32⟩
  | 87 => ⟨S128x512x512, .f32⟩
  | 88 => ⟨S128x512x512x1, .f32⟩
  | 89 => ⟨S128x512x512x1x3, .f32⟩
  | 90 => ⟨S128x512x512x3, .f32⟩
  | _ => ⟨S128x512x512x3, .f32⟩

abbrev hbmTy (i : Nat) : BufTy := match i / 128 with
  | 0 => hbmTy0_0 i
  | 1 => hbmTy0_1 i
  | 2 => hbmTy0_2 i
  | _ => ⟨S128x512x512x3, .f32⟩

abbrev bufTy : (tb : Table) → Fin (tcTables nBuf tb) → BufTy
  | .hbm, ⟨i, _⟩ => hbmTy i
  | _, _ => ⟨S128x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_call3_call0_cst : Ref sig .tc := ⟨.hbm, 80, rfl⟩
abbrev main_call3_call0_v0 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_cst_17 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v58 : Ref sig .tc := ⟨.hbm, 94, rfl⟩
abbrev main_v59 : Ref sig .tc := ⟨.hbm, 95, rfl⟩
abbrev main_cst_18 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_c_21 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_v67 : Ref sig .tc := ⟨.hbm, 112, rfl⟩
abbrev main_v68 : Ref sig .tc := ⟨.hbm, 113, rfl⟩
abbrev main_c_22 : Ref sig .tc := ⟨.hbm, 114, rfl⟩
abbrev main_v69 : Ref sig .tc := ⟨.hbm, 115, rfl⟩
abbrev main_v70 : Ref sig .tc := ⟨.hbm, 116, rfl⟩
abbrev main_c_23 : Ref sig .tc := ⟨.hbm, 117, rfl⟩
abbrev main_c_24 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v71 : Ref sig .tc := ⟨.hbm, 124, rfl⟩
abbrev main_v72 : Ref sig .tc := ⟨.hbm, 125, rfl⟩
abbrev main_cst_25 : Ref sig .tc := ⟨.hbm, 126, rfl⟩
abbrev main_v73 : Ref sig .tc := ⟨.hbm, 127, rfl⟩
abbrev main_v74 : Ref sig .tc := ⟨.hbm, 128, rfl⟩
abbrev main_cst_26 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_27 : Ref sig .tc := ⟨.hbm, 135, rfl⟩
abbrev main_c_28 : Ref sig .tc := ⟨.hbm, 136, rfl⟩
abbrev main_call8_v0 : Ref sig .tc := ⟨.hbm, 137, rfl⟩
abbrev main_call8_v1 : Ref sig .tc := ⟨.hbm, 138, rfl⟩
abbrev main_call8_v2 : Ref sig .tc := ⟨.hbm, 139, rfl⟩
abbrev main_call8_v3 : Ref sig .tc := ⟨.hbm, 140, rfl⟩
abbrev main_call8_v4 : Ref sig .tc := ⟨.hbm, 141, rfl⟩
abbrev main_v80 : Ref sig .tc := ⟨.hbm, 142, rfl⟩
abbrev main_v81 : Ref sig .tc := ⟨.hbm, 143, rfl⟩
abbrev main_c_29 : Ref sig .tc := ⟨.hbm, 144, rfl⟩
abbrev main_v82 : Ref sig .tc := ⟨.hbm, 145, rfl⟩
abbrev main_v83 : Ref sig .tc := ⟨.hbm, 146, rfl⟩
abbrev main_c_30 : Ref sig .tc := ⟨.hbm, 147, rfl⟩
abbrev main_c_31 : Ref sig .tc := ⟨.hbm, 148, rfl⟩
abbrev main_call9_v0 : Ref sig .tc := ⟨.hbm, 149, rfl⟩
abbrev main_call9_v1 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_c_32 : Ref sig .tc := ⟨.hbm, 161, rfl⟩
abbrev main_v91 : Ref sig .tc := ⟨.hbm, 162, rfl⟩
abbrev main_v92 : Ref sig .tc := ⟨.hbm, 163, rfl⟩
abbrev main_c_33 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_c_34 : Ref sig .tc := ⟨.hbm, 168, rfl⟩
abbrev main_v96 : Ref sig .tc := ⟨.hbm, 169, rfl⟩
abbrev main_v97 : Ref sig .tc := ⟨.hbm, 170, rfl⟩
abbrev main_c_35 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_c_36 : Ref sig .tc := ⟨.hbm, 175, rfl⟩
abbrev main_v101 : Ref sig .tc := ⟨.hbm, 176, rfl⟩
abbrev main_v102 : Ref sig .tc := ⟨.hbm, 177, rfl⟩
abbrev main_c_37 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_c_38 : Ref sig .tc := ⟨.hbm, 182, rfl⟩
abbrev main_v106 : Ref sig .tc := ⟨.hbm, 183, rfl⟩
abbrev main_v107 : Ref sig .tc := ⟨.hbm, 184, rfl⟩
abbrev main_c_39 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_c_40 : Ref sig .tc := ⟨.hbm, 198, rfl⟩
abbrev main_v120 : Ref sig .tc := ⟨.hbm, 199, rfl⟩
abbrev main_v121 : Ref sig .tc := ⟨.hbm, 200, rfl⟩
abbrev main_c_41 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_c_42 : Ref sig .tc := ⟨.hbm, 205, rfl⟩
abbrev main_v125 : Ref sig .tc := ⟨.hbm, 206, rfl⟩
abbrev main_v126 : Ref sig .tc := ⟨.hbm, 207, rfl⟩
abbrev main_c_43 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_c_44 : Ref sig .tc := ⟨.hbm, 212, rfl⟩
abbrev main_v130 : Ref sig .tc := ⟨.hbm, 213, rfl⟩
abbrev main_v131 : Ref sig .tc := ⟨.hbm, 214, rfl⟩
abbrev main_c_45 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_c_46 : Ref sig .tc := ⟨.hbm, 219, rfl⟩
abbrev main_v135 : Ref sig .tc := ⟨.hbm, 220, rfl⟩
abbrev main_v136 : Ref sig .tc := ⟨.hbm, 221, rfl⟩
abbrev main_c_47 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_c_48 : Ref sig .tc := ⟨.hbm, 235, rfl⟩
abbrev main_v149 : Ref sig .tc := ⟨.hbm, 236, rfl⟩
abbrev main_v150 : Ref sig .tc := ⟨.hbm, 237, rfl⟩
abbrev main_c_49 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_c_50 : Ref sig .tc := ⟨.hbm, 242, rfl⟩
abbrev main_v154 : Ref sig .tc := ⟨.hbm, 243, rfl⟩
abbrev main_v155 : Ref sig .tc := ⟨.hbm, 244, rfl⟩
abbrev main_c_51 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_c_52 : Ref sig .tc := ⟨.hbm, 249, rfl⟩
abbrev main_v159 : Ref sig .tc := ⟨.hbm, 250, rfl⟩
abbrev main_v160 : Ref sig .tc := ⟨.hbm, 251, rfl⟩
abbrev main_c_53 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_c_54 : Ref sig .tc := ⟨.hbm, 256, rfl⟩
abbrev main_v164 : Ref sig .tc := ⟨.hbm, 257, rfl⟩
abbrev main_v165 : Ref sig .tc := ⟨.hbm, 258, rfl⟩
abbrev main_c_55 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_c_56 : Ref sig .tc := ⟨.hbm, 272, rfl⟩
abbrev main_v178 : Ref sig .tc := ⟨.hbm, 273, rfl⟩
abbrev main_v179 : Ref sig .tc := ⟨.hbm, 274, rfl⟩
abbrev main_c_57 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_c_58 : Ref sig .tc := ⟨.hbm, 279, rfl⟩
abbrev main_v183 : Ref sig .tc := ⟨.hbm, 280, rfl⟩
abbrev main_v184 : Ref sig .tc := ⟨.hbm, 281, rfl⟩
abbrev main_c_59 : Ref sig .tc := ⟨.hbm, 282, rfl⟩
abbrev main_v185 : Ref sig .tc := ⟨.hbm, 283, rfl⟩
abbrev main_v186 : Ref sig .tc := ⟨.hbm, 284, rfl⟩
abbrev main_v187 : Ref sig .tc := ⟨.hbm, 285, rfl⟩
abbrev main_c_60 : Ref sig .tc := ⟨.hbm, 286, rfl⟩
abbrev main_v188 : Ref sig .tc := ⟨.hbm, 287, rfl⟩
abbrev main_v189 : Ref sig .tc := ⟨.hbm, 288, rfl⟩
abbrev main_c_61 : Ref sig .tc := ⟨.hbm, 289, rfl⟩
abbrev main_v190 : Ref sig .tc := ⟨.hbm, 290, rfl⟩
abbrev main_v191 : Ref sig .tc := ⟨.hbm, 291, rfl⟩
abbrev main_v192 : Ref sig .tc := ⟨.hbm, 292, rfl⟩
abbrev main_c_62 : Ref sig .tc := ⟨.hbm, 293, rfl⟩
abbrev main_v193 : Ref sig .tc := ⟨.hbm, 294, rfl⟩
abbrev main_v194 : Ref sig .tc := ⟨.hbm, 295, rfl⟩
abbrev main_c_63 : Ref sig .tc := ⟨.hbm, 296, rfl⟩
abbrev main_v195 : Ref sig .tc := ⟨.hbm, 297, rfl⟩
abbrev main_v196 : Ref sig .tc := ⟨.hbm, 298, rfl⟩
abbrev main_v197 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_v203 : Ref sig .tc := ⟨.hbm, 305, rfl⟩
abbrev main_v204 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_v208 : Ref sig .tc := ⟨.hbm, 310, rfl⟩
abbrev main_cst_64 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_cst_65 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_cst_66 : Ref sig .tc := ⟨.hbm, 324, rfl⟩
abbrev main_v220 : Ref sig .tc := ⟨.hbm, 325, rfl⟩
abbrev main_v221 : Ref sig .tc := ⟨.hbm, 326, rfl⟩
abbrev main_v222 : Ref sig .tc := ⟨.hbm, 327, rfl⟩
abbrev main_v223 : Ref sig .tc := ⟨.hbm, 328, rfl⟩
abbrev main_v224 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_cst_67 : Ref sig .tc := ⟨.hbm, 336, rfl⟩
abbrev main_cst_68 : Ref sig .tc := ⟨.hbm, 337, rfl⟩
abbrev main_call11_v0 : Ref sig .tc := ⟨.hbm, 338, rfl⟩
abbrev main_call11_v1 : Ref sig .tc := ⟨.hbm, 339, rfl⟩
abbrev main_call11_v2 : Ref sig .tc := ⟨.hbm, 340, rfl⟩
abbrev main_call11_v3 : Ref sig .tc := ⟨.hbm, 341, rfl⟩
abbrev main_call11_v4 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩

abbrev nD : Nat := 1
abbrev τ : Topo := Topo.v7x

variable {F : FTy → Type} [FloatOps F]
-- ==== Proof.Spec.lean ====
module

public import Idealize.ShloMosaic.Lib.Pointwise

@[expose] public section

/-! # Contrast-limited equalisation, as mathematics

    The function that the kernel and the reference both compute, stated over natural and real numbers and naming no
    program. An image is a function of batch, row, column and channel with values in the extended reals; everything after
    the first clip is finite. -/

noncomputable section

namespace Cert.Clahe

open Idealize.ShloMosaic

/-- An image: batch, row, column, channel. -/
abbrev Img : Type := Fin 128 → Fin 512 → Fin 512 → Fin 3 → EReal

/-- The weight of channel 0, the single-precision number nearest 0.114. -/
def w0 : ℝ := 15300821 / 134217728
/-- The weight of channel 1, the single-precision number nearest 0.587. -/
def w1 : ℝ := 9848226 / 16777216
/-- The weight of channel 2, the single-precision number nearest 0.299. -/
def w2 : ℝ := 10032775 / 33554432

/-- An integer clipped to [0, 255]. -/
def clip255 (z : ℤ) : ℕ := (min 255 (max 0 z)).toNat

/-- A channel value clipped to [0, 255] and rounded down to an integer. -/
def pix (X : EReal) : ℤ := ⌊(min 255 (max 0 X)).toReal⌋

/-- The grey level of three channel values: their weighted sum, rounded to the nearest integer (ties to even) and
    clipped. -/
def grayOf (p q r : ℤ) : ℕ := clip255 (Ideal.roundHalfEven (w0 * p + w1 * q + w2 * r))

/-- The grey level of a pixel. -/
def gray (I : Img) (b : Fin 128) (y x : Fin 512) : ℕ := grayOf (pix (I b y x 0)) (pix (I b y x 1)) (pix (I b y x 2))

/-- The grey levels of one of the 64 × 64 tiles of an image. -/
def tile (I : Img) (b : Fin 128) (ty tx : Fin 8) (r q : Fin 64) : ℕ :=
  gray I b ⟨64 * ty + r, by omega⟩ ⟨64 * tx + q, by omega⟩

/-- How many pixels of a tile have grey level `k`. -/
def hist (G : Fin 64 → Fin 64 → ℕ) (k : ℕ) : ℕ :=
  (Finset.univ.filter fun p : Fin 64 × Fin 64 => G p.1 p.2 = k).card

/-- The total by which the bins of a histogram exceed 80. -/
def excess (h : Fin 256 → ℝ) : ℝ := ∑ k : Fin 256, max (h k - 80) 0

/-- The clipped histogram with the excess spread evenly over the bins. -/
def spread (h : Fin 256 → ℝ) (k : Fin 256) : ℝ := min (h k) 80 + excess h * (1 / 256)

/-- The running sum of the spread histogram, up to and including bin `v`. -/
def cdf (h : Fin 256 → ℝ) (v : Fin 256) : ℝ := ∑ k : Fin 256, if k ≤ v then spread h k else 0

/-- The table entry that a histogram gives to grey level `v`. -/
def lutOf (h : Fin 256 → ℝ) (v : Fin 256) : ℕ := clip255 (Ideal.roundHalfEven (cdf h v * (255 / 4096)))

/-- The table of a tile at grey level `v`. -/
def lut (I : Img) (b : Fin 128) (ty tx : Fin 8) (v : Fin 256) : ℕ := lutOf (fun k => (hist (tile I b ty tx) k : ℝ)) v

/-- The tile whose centre lies at or before coordinate `x`, -1 before the first centre: the integer part of
    `x / 64 - 1 / 2`. -/
def cell (x : ℕ) : ℤ := ((x : ℤ) - 32) / 64

/-- A tile number clipped to the eight tiles there are. -/
def clipTile (z : ℤ) : Fin 8 := ⟨(min 7 (max 0 z)).toNat, by omega⟩

/-- How far coordinate `x` lies from the centre of its cell's tile to the next one's. -/
def frac (x : ℕ) : ℝ := (x : ℝ) / 64 - 1 / 2 - cell x

/-- A clipped integer is below 256. -/
theorem clip255_lt (z : ℤ) : clip255 z < 256 := by unfold clip255; omega

/-- A grey level is below 256. -/
theorem gray_lt (I : Img) (b : Fin 128) (y x : Fin 512) : gray I b y x < 256 := clip255_lt _

/-- The four tables around a pixel, mixed by its distances from the tiles' centres, before rounding. -/
def mix (l11 l12 l21 l22 xa ya : ℝ) : ℝ := (l11 * (1 - xa) + l12 * xa) * (1 - ya) + (l21 * (1 - xa) + l22 * xa) * ya

/-- The equalised grey level of a pixel, the same in all three channels. -/
def out (I : Img) (b : Fin 128) (y x : Fin 512) : ℕ :=
  have v : Fin 256 := ⟨gray I b y x, gray_lt I b y x⟩
  have y1 : Fin 8 := clipTile (cell y)
  have y2 : Fin 8 := clipTile (cell y + 1)
  have x1 : Fin 8 := clipTile (cell x)
  have x2 : Fin 8 := clipTile (cell x + 1)
  clip255 (Ideal.roundHalfEven
    (mix (lut I b y1 x1 v) (lut I b y1 x2 v) (lut I b y2 x1 v) (lut I b y2 x2 v) (frac x) (frac y)))

end Cert.Clahe

end
-- ==== Proof.Words.lean ====
module

public import proofs.«01_k».proof.Proof.Spec
public import Idealize.ShloMosaic.Lib.IdealHost

@[expose] public section

/-! # The programs' literals as real numbers, and the roundings and clips on finite values -/

noncomputable section

namespace Cert.Clahe

open Idealize.ShloMosaic

/-- What a positive normal single-precision word with exponent field `E` and fraction field `F` denotes. -/
theorem word_normal {b : BitVec 32} {r : ℝ} (E F : ℕ)
    (hb : b.extractLsb' 31 1 = 0#1 ∧ (b.extractLsb' 23 8).toNat = E ∧ (b.extractLsb' 0 23).toNat = F)
    (h0 : E ≠ 0) (h1 : E ≠ 255) (hr : ((2 ^ 23 + F : ℕ) : ℝ) * (2 : ℝ) ^ ((E : ℤ) - 127 - 23) = r) :
    Ideal.ofBits .f32 b = (r : EReal) := by
  obtain ⟨hn, hE, hF⟩ := hb
  subst hE hF
  rw [← hr]
  simp only [Ideal.ofBits, Ideal.ieee]
  rw [if_neg (by exact h1), if_neg h0, hn]
  norm_num

/-- The word of 255. -/
theorem word_255 : Ideal.ofBits .f32 0x437F0000#32 = ((255 : ℝ) : EReal) := by
  exact word_normal 134 8323072 (by decide) (by decide) (by decide) (by norm_num)
/-- The word of 80. -/
theorem word_80 : Ideal.ofBits .f32 0x42A00000#32 = ((80 : ℝ) : EReal) := by
  exact word_normal 133 2097152 (by decide) (by decide) (by decide) (by norm_num)
/-- The word of 64. -/
theorem word_64 : Ideal.ofBits .f32 0x42800000#32 = ((64 : ℝ) : EReal) := by
  exact word_normal 133 0 (by decide) (by decide) (by decide) (by norm_num)
/-- The word of 32. -/
theorem word_32 : Ideal.ofBits .f32 0x42000000#32 = ((32 : ℝ) : EReal) := by
  exact word_normal 132 0 (by decide) (by decide) (by decide) (by norm_num)
/-- The word of 256. -/
theorem word_256 : Ideal.ofBits .f32 0x43800000#32 = ((256 : ℝ) : EReal) := by
  exact word_normal 135 0 (by decide) (by decide) (by decide) (by norm_num)
/-- The word of 1/256. -/
theorem word_inv256 : Ideal.ofBits .f32 0x3B800000#32 = ((1 / 256 : ℝ) : EReal) := by
  exact word_normal 119 0 (by decide) (by decide) (by decide) (by norm_num)
/-- The word of 1/64. -/
theorem word_inv64 : Ideal.ofBits .f32 0x3C800000#32 = ((1 / 64 : ℝ) : EReal) := by
  exact word_normal 121 0 (by decide) (by decide) (by decide) (by norm_num)
/-- The word of 1/2. -/
theorem word_half : Ideal.ofBits .f32 0x3F000000#32 = ((1 / 2 : ℝ) : EReal) := by
  exact word_normal 126 0 (by decide) (by decide) (by decide) (by norm_num)
/-- The word of 255/4096. -/
theorem word_scale : Ideal.ofBits .f32 0x3D7F0000#32 = ((255 / 4096 : ℝ) : EReal) := by
  exact word_normal 122 8323072 (by decide) (by decide) (by decide) (by norm_num)
/-- The word of 1. -/
theorem word_1 : Ideal.ofBits .f32 0x3F800000#32 = ((1 : ℝ) : EReal) := by
  exact word_normal 127 0 (by decide) (by decide) (by decide) (by norm_num)
/-- The word of channel 0's weight. -/
theorem word_w0 : Ideal.ofBits .f32 0x3DE978D5#32 = ((w0 : ℝ) : EReal) := by
  exact word_normal 123 6912213 (by decide) (by decide) (by decide) (by norm_num [w0])
/-- The word of channel 1's weight. -/
theorem word_w1 : Ideal.ofBits .f32 0x3F1645A2#32 = ((w1 : ℝ) : EReal) := by
  exact word_normal 126 1459618 (by decide) (by decide) (by decide) (by norm_num [w1])
/-- The word of channel 2's weight. -/
theorem word_w2 : Ideal.ofBits .f32 0x3E991687#32 = ((w2 : ℝ) : EReal) := by
  exact word_normal 125 1644167 (by decide) (by decide) (by decide) (by norm_num [w2])

/-- A single-precision word that denotes a natural number. -/
theorem word_nat {b : BitVec 32} {n : ℕ}
    (h : b = 0#32 ∧ n = 0 ∨ b.extractLsb' 31 1 = 0#1 ∧ (b.extractLsb' 23 8).toNat ≠ 0 ∧ (b.extractLsb' 23 8).toNat ≠ 255
      ∧ (2 ^ 23 + (b.extractLsb' 0 23).toNat) * 2 ^ (b.extractLsb' 23 8).toNat = n * 2 ^ 150) :
    Ideal.ofBits .f32 b = ((n : ℝ) : EReal) := by
  rcases h with ⟨rfl, rfl⟩ | ⟨hn, h0, h1, h⟩
  · simp [Ideal.ofBits_zero]
  · refine word_normal _ _ ⟨hn, rfl, rfl⟩ h0 h1 ?_
    generalize (b.extractLsb' 23 8).toNat = E at *
    generalize (b.extractLsb' 0 23).toNat = M at *
    have h' : ((2 ^ 23 + M : ℕ) : ℝ) * (2 : ℝ) ^ E = n * 2 ^ 150 := by exact_mod_cast h
    rw [show ((E : ℤ) - 127 - 23) = (E : ℤ) - (150 : ℕ) by push_cast; ring, zpow_sub₀ (by norm_num), zpow_natCast,
      zpow_natCast, ← mul_div_assoc, h', mul_div_assoc, div_self (by positivity), mul_one]

/-- The greater of two reals, taken in the extended reals. -/
theorem coe_max (a b : ℝ) : max (a : EReal) (b : EReal) = ((max a b : ℝ) : EReal) :=
  (EReal.coe_strictMono.monotone.map_max).symm
/-- The lesser of two reals, taken in the extended reals. -/
theorem coe_min (a b : ℝ) : min (a : EReal) (b : EReal) = ((min a b : ℝ) : EReal) :=
  (EReal.coe_strictMono.monotone.map_min).symm
/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An integer clipped to [0, 255] in the extended reals is the natural number `clip255` gives. -/
theorem clip_coe (z : ℤ) :
    min ((255 : ℝ) : EReal) (max 0 (((z : ℤ) : ℝ) : EReal)) = ((clip255 z : ℝ) : EReal) := by
  have h : ((clip255 z : ℕ) : ℤ) = min 255 (max 0 z) := by unfold clip255; omega
  have h' : ((clip255 z : ℕ) : ℝ) = min 255 (max 0 (z : ℝ)) := by
    have := congrArg (fun t : ℤ => (t : ℝ)) h
    push_cast at this
    exact this
  rw [h', ← EReal.coe_zero, coe_max, coe_min]

/-- A value rounded to the nearest integer and clipped to [0, 255]. -/
theorem clip_round (r : ℝ) :
    min ((255 : ℝ) : EReal) (max 0 (Ideal.liftRound Ideal.roundHalfEven (r : EReal)))
      = ((clip255 (Ideal.roundHalfEven r) : ℝ) : EReal) := clip_coe _

/-- Clipping to [0, 255] leaves a real number, between 0 and 255. -/
theorem clip_real (X : EReal) :
    ∃ r : ℝ, min ((255 : ℝ) : EReal) (max 0 X) = (r : EReal) ∧ 0 ≤ r ∧ r ≤ 255 := by
  have h0 : (0 : EReal) ≤ min ((255 : ℝ) : EReal) (max 0 X) :=
    le_min (EReal.coe_nonneg.mpr (by norm_num)) (le_max_left _ _)
  have h1 : min ((255 : ℝ) : EReal) (max 0 X) ≤ ((255 : ℝ) : EReal) := min_le_left _ _
  induction h : min ((255 : ℝ) : EReal) (max 0 X) with
  | bot => rw [h] at h0; exact absurd h0 (by simp)
  | top => rw [h] at h1; exact absurd h1 (by simp)
  | coe r => rw [h] at h0 h1; exact ⟨r, rfl, EReal.coe_nonneg.mp h0, EReal.coe_le_coe_iff.mp h1⟩

/-- The rounded-down clip of a channel value. -/
theorem floor_clip (X : EReal) :
    Ideal.liftRound Int.floor (min ((255 : ℝ) : EReal) (max 0 X)) = (((pix X : ℤ) : ℝ) : EReal) := by
  obtain ⟨r, hr, _, _⟩ := clip_real X
  have : pix X = ⌊r⌋ := by
    unfold pix
    have h255 : ((255 : ℝ) : EReal) = 255 := rfl
    rw [← h255, hr, EReal.toReal_coe]
  rw [hr, this]; rfl

/-- The 32-bit word of the clip of a channel value is its rounded-down integer's. -/
theorem fptosi_clip (X : EReal) :
    Ideal.fptosi 32 (min ((255 : ℝ) : EReal) (max 0 X)) = BitVec.ofInt 32 (pix X) := by
  obtain ⟨r, hr, h0, h1⟩ := clip_real X
  have hp : pix X = ⌊r⌋ := by
    unfold pix
    have h255 : ((255 : ℝ) : EReal) = 255 := rfl
    rw [← h255, hr, EReal.toReal_coe]
  have a0 : (0 : ℤ) ≤ ⌊r⌋ := Int.floor_nonneg.mpr h0
  have a1 : ⌊r⌋ ≤ 255 := by
    have : (⌊r⌋ : ℝ) ≤ 255 := le_trans (Int.floor_le r) h1
    exact_mod_cast this
  rw [hr, Ideal.fptosi, Ideal.toIntClamped_coe, if_pos h0, hp]
  congr 1
  norm_num
  omega

/-- A rounded-down channel value lies in [0, 255]. -/
theorem pix_range (X : EReal) : 0 ≤ pix X ∧ pix X ≤ 255 := by
  obtain ⟨r, hr, h0, h1⟩ := clip_real X
  have hp : pix X = ⌊r⌋ := by
    unfold pix
    have h255 : ((255 : ℝ) : EReal) = 255 := rfl
    rw [← h255, hr, EReal.toReal_coe]
  rw [hp]
  refine ⟨Int.floor_nonneg.mpr h0, ?_⟩
  have : (⌊r⌋ : ℝ) ≤ 255 := le_trans (Int.floor_le r) h1
  exact_mod_cast this

/-- The signed value of a word that holds a small natural number. -/
theorem toInt_nat (k : ℕ) (hk : k < 2 ^ 31) : (BitVec.ofNat 32 k).toInt = k := by
  rw [BitVec.toInt_eq_toNat_cond, BitVec.toNat_ofNat]
  split_ifs <;> omega

/-- The float of a word that holds a small natural number. -/
theorem sitofp_nat (k : ℕ) (hk : k < 2 ^ 31) :
    (FloatOps.sitofp .f32 (BitVec.ofNat 32 k) : Ideal .f32) = ((k : ℝ) : EReal) := by
  change (((BitVec.ofNat 32 k).toInt : ℝ) : EReal) = _
  rw [toInt_nat k hk]; simp

/-- The float of one bit, widened. -/
theorem sitofp_bit (p : Prop) [Decidable p] :
    (FloatOps.sitofp .f32 (BitVec.setWidth 32 (BitVec.ofBool (decide p))) : Ideal .f32)
      = (((if p then 1 else 0 : ℕ) : ℝ) : EReal) := by
  by_cases h : p
  · simp only [h, decide_true, if_true]; exact sitofp_nat 1 (by norm_num)
  · simp only [h, decide_false, if_false]; exact sitofp_nat 0 (by norm_num)

/-- Equality of natural numbers, read in the extended reals. -/
theorem coe_nat_eq (a b : ℕ) : (((a : ℝ) : EReal) = ((b : ℝ) : EReal)) ↔ a = b := by
  rw [EReal.coe_eq_coe_iff, Nat.cast_inj]

/-- The 0/1 float of a comparison of a natural number with a word that holds one. -/
theorem hit_word (a k : ℕ) (hk : k < 2 ^ 31) :
    (FloatOps.sitofp .f32 (BitVec.setWidth 32 (BitVec.ofBool (decide
      (((a : ℝ) : EReal) = (FloatOps.sitofp .f32 (BitVec.ofNat 32 k) : Ideal .f32))))) : Ideal .f32)
      = (((if a = k then 1 else 0 : ℕ) : ℝ) : EReal) := by
  rw [sitofp_bit, sitofp_nat k hk]
  simp only [coe_nat_eq]

/-- The integer part of a coordinate's place among the tiles' centres. -/
theorem floor_cell (n : ℕ) : ⌊(n : ℝ) * (1 / 64) - 1 / 2⌋ = cell n := by
  have h : 64 * cell n ≤ (n : ℤ) - 32 ∧ (n : ℤ) - 32 < 64 * cell n + 64 := by unfold cell; omega
  have h1 : (64 : ℝ) * (cell n : ℝ) ≤ (n : ℝ) - 32 := by exact_mod_cast h.1
  have h2 : (n : ℝ) - 32 < 64 * (cell n : ℝ) + 64 := by exact_mod_cast h.2
  rw [Int.floor_eq_iff]
  constructor <;> linarith

/-- A coordinate's distance past its cell's centre, as the programs compute it. -/
theorem frac_eq (n : ℕ) : (n : ℝ) * (1 / 64) - 1 / 2 - ((⌊(n : ℝ) * (1 / 64) - 1 / 2⌋ : ℤ) : ℝ) = frac n := by
  rw [floor_cell, frac]; ring

end Cert.Clahe

end
-- ==== Proof.KerSeg.lean ====
module

public import proofs.«01_k».proof.Proof.Words
public import Idealize.ShloMosaic.Lib.Pipeline.ValueKit
public import proofs.«01_k».proof.Proof.Gen.KernelIdeal.Frame

@[expose] public section

/-! # One segment of the second kernel: table look-up and bilinear mixing

    The second kernel's body treats the sixteen 32-column segments of a stripe alike. Here the operations on one segment
    are named once, the body's stored value is those operations at the sixteen segments, and their value is computed
    once. -/

set_option maxRecDepth 16384

noncomputable section

namespace Cert.KernelIdeal.Hand

open Cert.KernelIdeal Cert.KernelIdeal.Gen Cert.Clahe Idealize.ShloMosaic

variable {F : FTy → Type} [FloatOps F]

/-- How far each column of the segment starting at the column `w` denotes lies past a tile's centre. -/
def segFrac (w : BitVec 32) : FVec F S1x32 .f32 :=
  have xf : FVec F S1x32 .f32 := subf (mulf (addf (sitofp .f32 (iota .tc S1x32 32 [1] iota_S1x32_d1_w32)) (broadcast S1x32 (Scalar.ofBits .f32 w)))
    (broadcast S1x32 (Scalar.ofBits .f32 0x3C800000#32))) (broadcast S1x32 (Scalar.ofBits .f32 0x3F000000#32))
  subf xf (floor xf)

/-- A table row of the upper tiles and one of the lower, mixed by each row's distance `ya`. -/
def rowMix (ya : FVec F S32x1 .f32) (l1 l2 : FVec F S1x256 .f32) : FVec F S32x256 .f32 :=
  addf (mulf (broadcastTo S32x256 (subf (broadcast S32x1 (Scalar.ofBits .f32 0x3F800000#32)) ya) broadcasts_S32x1_S32x256)
      (broadcastTo S32x256 (shapeCast S1x256 (shapeCast S256 l1 shapeCasts_S1x256_S256) shapeCasts_S256_S1x256) broadcasts_S1x256_S32x256))
    (mulf (broadcastTo S32x256 ya broadcasts_S32x1_S32x256)
      (broadcastTo S32x256 (shapeCast S1x256 (shapeCast S256 l2 shapeCasts_S1x256_S256) shapeCasts_S256_S1x256) broadcasts_S1x256_S32x256))

/-- The tables `e` looked up at the segment's grey levels `v`: a comparison with every bin, and a sum of the hits. -/
def lookup (v : FVec F S32x32 .f32) (e : FVec F S32x256 .f32) : FVec F S32x32 .f32 :=
  multiReduction .add [2] S32x32 (mulf
    (sitofp .f32 (extui 32 (cmpf .oeq
      (broadcastTo S32x32x256 (shapeCast S32x32x1 v shapeCasts_S32x32_S32x32x1) broadcasts_S32x32x1_S32x32x256)
      (sitofp .f32 (iota .tc S32x32x256 32 [2] iota_S32x32x256_d2_w32))) natLt_1_32))
    (broadcastTo S32x32x256 (shapeCast S32x1x256 e shapeCasts_S32x256_S32x1x256) broadcasts_S32x1x256_S32x32x256))
    0x00000000#32 reduces_S32x32x256_S32x32 (.inl rfl) rfl

/-- The segment's values before rounding. -/
def segment (v : FVec F S32x32 .f32) (ya : FVec F S32x1 .f32) (xa : FVec F S1x32 .f32)
    (l1a l2a l1b l2b : FVec F S1x256 .f32) : FVec F S32x32 .f32 :=
  addf (mulf (lookup v (rowMix ya l1a l2a))
      (broadcastTo S32x32 (subf (broadcast S1x32 (Scalar.ofBits .f32 0x3F800000#32)) xa) broadcasts_S1x32_S32x32))
    (mulf (lookup v (rowMix ya l1b l2b)) (broadcastTo S32x32 xa broadcasts_S1x32_S32x32))

/-- The stripe's values: rounded, clipped, every column three times over. -/
def stripe (m : FVec F S32x512 .f32) : FVec F S32x1536 .f32 :=
  shapeCast S32x1536 (broadcastTo S32x512x3 (shapeCast S32x512x1
    (minimumf (broadcast S32x512 (Scalar.ofBits .f32 0x437F0000#32))
      (maximumf (broadcast S32x512 (Scalar.ofBits .f32 0x00000000#32)) (roundeven m)))
    shapeCasts_S32x512_S32x512x1) broadcasts_S32x512x1_S32x512x3) shapeCasts_S32x512x3_S32x1536

/-- The sixteen segments. -/
def segmentOf (i : grid1.Coords) (x0 : Vec F S1x32x512 .f32) (x1 x2 : Vec F S1x1x8x256 .f32) : Fin 16 → FVec F S32x32 .f32 :=
  ![segment (extractStridedSlice S32x32 ![0, 0] (k1_pay2 (View.ld x0 r1_0)) slices_S32x512_o0_0_S32x32) (k1_pay5 i) (segFrac 0x00000000#32) (extractStridedSlice S1x256 ![0, 0] (k1_pay3 (View.ld x1 r1_1)) slices_S8x256_o0_0_S1x256) (extractStridedSlice S1x256 ![0, 0] (k1_pay4 (View.ld x2 r1_1)) slices_S8x256_o0_0_S1x256) (extractStridedSlice S1x256 ![0, 0] (k1_pay3 (View.ld x1 r1_1)) slices_S8x256_o0_0_S1x256) (extractStridedSlice S1x256 ![0, 0] (k1_pay4 (View.ld x2 r1_1)) slices_S8x256_o0_0_S1x256),
    segment (extractStridedSlice S32x32 ![0, 32] (k1_pay2 (View.ld x0 r1_0)) slices_S32x512_o0_32_S32x32) (k1_pay5 i) (segFrac 0x42000000#32) (extractStridedSlice S1x256 ![0, 0] (k1_pay3 (View.ld x1 r1_1)) slices_S8x256_o0_0_S1x256) (extractStridedSlice S1x256 ![0, 0] (k1_pay4 (View.ld x2 r1_1)) slices_S8x256_o0_0_S1x256) (extractStridedSlice S1x256 ![1, 0] (k1_pay3 (View.ld x1 r1_1)) slices_S8x256_o1_0_S1x256) (extractStridedSlice S1x256 ![1, 0] (k1_pay4 (View.ld x2 r1_1)) slices_S8x256_o1_0_S1x256),
    segment (extractStridedSlice S32x32 ![0, 64] (k1_pay2 (View.ld x0 r1_0)) slices_S32x512_o0_64_S32x32) (k1_pay5 i) (segFrac 0x42800000#32) (extractStridedSlice S1x256 ![0, 0] (k1_pay3 (View.ld x1 r1_1)) slices_S8x256_o0_0_S1x256) (extractStridedSlice S1x256 ![0, 0] (k1_pay4 (View.ld x2 r1_1)) slices_S8x256_o0_0_S1x256) (extractStridedSlice S1x256 ![1, 0] (k1_pay3 (View.ld x1 r1_1)) slices_S8x256_o1_0_S1x256) (extractStridedSlice S1x256 ![1, 0] (k1_pay4 (View.ld x2 r1_1)) slices_S8x256_o1_0_S1x256),
    segment (extractStridedSlice S32x32 ![0, 96] (k1_pay2 (View.ld x0 r1_0)) slices_S32x512_o0_96_S32x32) (k1_pay5 i) (segFrac 0x42C00000#32) (extractStridedSlice S1x256 ![1, 0] (k1_pay3 (View.ld x1 r1_1)) slices_S8x256_o1_0_S1x256) (extractStridedSlice S1x256 ![1, 0] (k1_pay4 (View.ld x2 r1_1)) slices_S8x256_o1_0_S1x256) (extractStridedSlice S1x256 ![2, 0] (k1_pay3 (View.ld x1 r1_1)) slices_S8x256_o2_0_S1x256) (extractStridedSlice S1x256 ![2, 0] (k1_pay4 (View.ld x2 r1_1)) slices_S8x256_o2_0_S1x256),
    segment (extractStridedSlice S32x32 ![0, 128] (k1_pay2 (View.ld x0 r1_0)) slices_S32x512_o0_128_S32x32) (k1_pay5 i) (segFrac 0x43000000#32) (extractStridedSlice S1x256 ![1, 0] (k1_pay3 (View.ld x1 r1_1)) slices_S8x256_o1_0_S1x256) (extractStridedSlice S1x256 ![1, 0] (k1_pay4 (View.ld x2 r1_1)) slices_S8x256_o1_0_S1x256) (extractStridedSlice S1x256 ![2, 0] (k1_pay3 (View.ld x1 r1_1)) slices_S8x256_o2_0_S1x256) (extractStridedSlice S1x256 ![2, 0] (k1_pay4 (View.ld x2 r1_1)) slices_S8x256_o2_0_S1x256),
    segment (extractStridedSlice S32x32 ![0, 160] (k1_pay2 (View.ld x0 r1_0)) slices_S32x512_o0_160_S32x32) (k1_pay5 i) (segFrac 0x43200000#32) (extractStridedSlice S1x256 ![2, 0] (k1_pay3 (View.ld x1 r1_1)) slices_S8x256_o2_0_S1x256) (extractStridedSlice S1x256 ![2, 0] (k1_pay4 (View.ld x2 r1_1)) slices_S8x256_o2_0_S1x256) (extractStridedSlice S1x256 ![3, 0] (k1_pay3 (View.ld x1 r1_1)) slices_S8x256_o3_0_S1x256) (extractStridedSlice S1x256 ![3, 0] (k1_pay4 (View.ld x2 r1_1)) slices_S8x256_o3_0_S1x256),
    segment (extractStridedSlice S32x32 ![0, 192] (k1_pay2 (View.ld x0 r1_0)) slices_S32x512_o0_192_S32x32) (k1_pay5 i) (segFrac 0x43400000#32) (extractStridedSlice S1x256 ![2, 0] (k1_pay3 (View.ld x1 r1_1)) slices_S8x256_o2_0_S1x256) (extractStridedSlice S1x256 ![2, 0] (k1_pay4 (View.ld x2 r1_1)) slices_S8x256_o2_0_S1x256) (extractStridedSlice S1x256 ![3, 0] (k1_pay3 (View.ld x1 r1_1)) slices_S8x256_o3_0_S1x256) (extractStridedSlice S1x256 ![3, 0] (k1_pay4 (View.ld x2 r1_1)) slices_S8x256_o3_0_S1x256),
    segment (extractStridedSlice S32x32 ![0, 224] (k1_pay2 (View.ld x0 r1_0)) slices_S32x512_o0_224_S32x32) (k1_pay5 i) (segFrac 0x43600000#32) (extractStridedSlice S1x256 ![3, 0] (k1_pay3 (View.ld x1 r1_1)) slices_S8x256_o3_0_S1x256) (extractStridedSlice S1x256 ![3, 0] (k1_pay4 (View.ld x2 r1_1)) slices_S8x256_o3_0_S1x256) (extractStridedSlice S1x256 ![4, 0] (k1_pay3 (View.ld x1 r1_1)) slices_S8x256_o4_0_S1x256) (extractStridedSlice S1x256 ![4, 0] (k1_pay4 (View.ld x2 r1_1)) slices_S8x256_o4_0_S1x256),
    segment (extractStridedSlice S32x32 ![0, 256] (k1_pay2 (View.ld x0 r1_0)) slices_S32x512_o0_256_S32x32) (k1_pay5 i) (segFrac 0x43800000#32) (extractStridedSlice S1x256 ![3, 0] (k1_pay3 (View.ld x1 r1_1)) slices_S8x256_o3_0_S1x256) (extractStridedSlice S1x256 ![3, 0] (k1_pay4 (View.ld x2 r1_1)) slices_S8x256_o3_0_S1x256) (extractStridedSlice S1x256 ![4, 0] (k1_pay3 (View.ld x1 r1_1)) slices_S8x256_o4_0_S1x256) (extractStridedSlice S1x256 ![4, 0] (k1_pay4 (View.ld x2 r1_1)) slices_S8x256_o4_0_S1x256),
    segment (extractStridedSlice S32x32 ![0, 288] (k1_pay2 (View.ld x0 r1_0)) slices_S32x512_o0_288_S32x32) (k1_pay5 i) (segFrac 0x43900000#32) (extractStridedSlice S1x256 ![4, 0] (k1_pay3 (View.ld x1 r1_1)) slices_S8x256_o4_0_S1x256) (extractStridedSlice S1x256 ![4, 0] (k1_pay4 (View.ld x2 r1_1)) slices_S8x256_o4_0_S1x256) (extractStridedSlice S1x256 ![5, 0] (k1_pay3 (View.ld x1 r1_1)) slices_S8x256_o5_0_S1x256) (extractStridedSlice S1x256 ![5, 0] (k1_pay4 (View.ld x2 r1_1)) slices_S8x256_o5_0_S1x256),
    segment (extractStridedSlice S32x32 ![0, 320] (k1_pay2 (View.ld x0 r1_0)) slices_S32x512_o0_320_S32x32) (k1_pay5 i) (segFrac 0x43A00000#32) (extractStridedSlice S1x256 ![4, 0] (k1_pay3 (View.ld x1 r1_1)) slices_S8x256_o4_0_S1x256) (extractStridedSlice S1x256 ![4, 0] (k1_pay4 (View.ld x2 r1_1)) slices_S8x256_o4_0_S1x256) (extractStridedSlice S1x256 ![5, 0] (k1_pay3 (View.ld x1 r1_1)) slices_S8x256_o5_0_S1x256) (extractStridedSlice S1x256 ![5, 0] (k1_pay4 (View.ld x2 r1_1)) slices_S8x256_o5_0_S1x256),
    segment (extractStridedSlice S32x32 ![0, 352] (k1_pay2 (View.ld x0 r1_0)) slices_S32x512_o0_352_S32x32) (k1_pay5 i) (segFrac 0x43B00000#32) (extractStridedSlice S1x256 ![5, 0] (k1_pay3 (View.ld x1 r1_1)) slices_S8x256_o5_0_S1x256) (extractStridedSlice S1x256 ![5, 0] (k1_pay4 (View.ld x2 r1_1)) slices_S8x256_o5_0_S1x256) (extractStridedSlice S1x256 ![6, 0] (k1_pay3 (View.ld x1 r1_1)) slices_S8x256_o6_0_S1x256) (extractStridedSlice S1x256 ![6, 0] (k1_pay4 (View.ld x2 r1_1)) slices_S8x256_o6_0_S1x256),
    segment (extractStridedSlice S32x32 ![0, 384] (k1_pay2 (View.ld x0 r1_0)) slices_S32x512_o0_384_S32x32) (k1_pay5 i) (segFrac 0x43C00000#32) (extractStridedSlice S1x256 ![5, 0] (k1_pay3 (View.ld x1 r1_1)) slices_S8x256_o5_0_S1x256) (extractStridedSlice S1x256 ![5, 0] (k1_pay4 (View.ld x2 r1_1)) slices_S8x256_o5_0_S1x256) (extractStridedSlice S1x256 ![6, 0] (k1_pay3 (View.ld x1 r1_1)) slices_S8x256_o6_0_S1x256) (extractStridedSlice S1x256 ![6, 0] (k1_pay4 (View.ld x2 r1_1)) slices_S8x256_o6_0_S1x256),
    segment (extractStridedSlice S32x32 ![0, 416] (k1_pay2 (View.ld x0 r1_0)) slices_S32x512_o0_416_S32x32) (k1_pay5 i) (segFrac 0x43D00000#32) (extractStridedSlice S1x256 ![6, 0] (k1_pay3 (View.ld x1 r1_1)) slices_S8x256_o6_0_S1x256) (extractStridedSlice S1x256 ![6, 0] (k1_pay4 (View.ld x2 r1_1)) slices_S8x256_o6_0_S1x256) (extractStridedSlice S1x256 ![7, 0] (k1_pay3 (View.ld x1 r1_1)) slices_S8x256_o7_0_S1x256) (extractStridedSlice S1x256 ![7, 0] (k1_pay4 (View.ld x2 r1_1)) slices_S8x256_o7_0_S1x256),
    segment (extractStridedSlice S32x32 ![0, 448] (k1_pay2 (View.ld x0 r1_0)) slices_S32x512_o0_448_S32x32) (k1_pay5 i) (segFrac 0x43E00000#32) (extractStridedSlice S1x256 ![6, 0] (k1_pay3 (View.ld x1 r1_1)) slices_S8x256_o6_0_S1x256) (extractStridedSlice S1x256 ![6, 0] (k1_pay4 (View.ld x2 r1_1)) slices_S8x256_o6_0_S1x256) (extractStridedSlice S1x256 ![7, 0] (k1_pay3 (View.ld x1 r1_1)) slices_S8x256_o7_0_S1x256) (extractStridedSlice S1x256 ![7, 0] (k1_pay4 (View.ld x2 r1_1)) slices_S8x256_o7_0_S1x256),
    segment (extractStridedSlice S32x32 ![0, 480] (k1_pay2 (View.ld x0 r1_0)) slices_S32x512_o0_480_S32x32) (k1_pay5 i) (segFrac 0x43F00000#32) (extractStridedSlice S1x256 ![7, 0] (k1_pay3 (View.ld x1 r1_1)) slices_S8x256_o7_0_S1x256) (extractStridedSlice S1x256 ![7, 0] (k1_pay4 (View.ld x2 r1_1)) slices_S8x256_o7_0_S1x256) (extractStridedSlice S1x256 ![7, 0] (k1_pay3 (View.ld x1 r1_1)) slices_S8x256_o7_0_S1x256) (extractStridedSlice S1x256 ![7, 0] (k1_pay4 (View.ld x2 r1_1)) slices_S8x256_o7_0_S1x256)]

/-- The sixteen segments side by side. -/
def segments (i : grid1.Coords) (x0 : Vec F S1x32x512 .f32) (x1 x2 : Vec F S1x1x8x256 .f32) : FVec F S32x512 .f32 :=
  concatenate S32x512 1 (List.ofFn fun n : Fin 16 => (⟨S32x32, segmentOf i x0 x1 x2 n⟩ : (s : Shape) × (s.Idx → F .f32)))
    concatenates_S32x32_S32x32_S32x32_S32x32_S32x32_S32x32_S32x32_S32x32_S32x32_S32x32_S32x32_S32x32_S32x32_S32x32_S32x32_S32x32_S32x512_d1

set_option maxHeartbeats 1000000 in
/-- The stored block is the sixteen segments, side by side, finished as a stripe. -/
theorem out1_3_eq (i : grid1.Coords) (x0 : Vec F S1x32x512 .f32) (x1 x2 : Vec F S1x1x8x256 .f32) :
    out1_3 i x0 x1 x2 = View.canon [⟨r1_2, k1_pay1 (stripe (segments i x0 x1 x2))⟩] := rfl

/-- A column's distance past its cell's centre. -/
theorem segFrac_apply (w : BitVec 32) (n : ℕ) (hw : Ideal.ofBits .f32 w = ((n : ℝ) : EReal)) (q : Fin 32) :
    segFrac (F := Ideal) w (ix2 0 q) = ((frac (n + q) : ℝ) : EReal) := by
  pointwise [segFrac]
  simp only [sitofp_nat q (by omega), hw, word_inv64, word_half, ← EReal.coe_add, ← EReal.coe_mul, ← EReal.coe_sub]
  have e : (((q : ℕ) : ℝ) + n) = ((n + q : ℕ) : ℝ) := by push_cast; ring
  rw [e]
  exact (EReal.coe_sub _ _).symm.trans (congrArg _ (frac_eq (n + q)))

/-- A row's distance past its cell's centre. -/
theorem rowFrac_apply (i : grid1.Coords) (r : Fin 32) :
    k1_pay5 (F := Ideal) i (ix2 r 0) = ((frac (32 * (i 1).val + r) : ℝ) : EReal) := by
  pointwise [k1_pay5]
  have hi : (BitVec.ofNat 32 (i 1).val).toInt = ((i 1).val : ℤ) := toInt_nat _ (lt_trans (i 1).isLt (by decide))
  simp only [hi, sitofp_nat r (by omega), word_32, word_inv64, word_half, ← EReal.coe_add, ← EReal.coe_mul, ← EReal.coe_sub]
  have e : (((((i 1).val : ℤ) : ℝ) * 32 + ((r : ℕ) : ℝ))) = ((32 * (i 1).val + r : ℕ) : ℝ) := by push_cast; ring
  rw [e]
  exact (EReal.coe_sub _ _).symm.trans (congrArg _ (frac_eq _))

/-- The mixed table rows' value. -/
theorem rowMix_apply (ya : FVec Ideal S32x1 .f32) (l1 l2 : FVec Ideal S1x256 .f32) (Y : Fin 32 → ℝ) (L1 L2 : Fin 256 → ℝ)
    (hY : ∀ r, ya (ix2 r 0) = (Y r : EReal)) (h1 : ∀ k, l1 (ix2 0 k) = (L1 k : EReal))
    (h2 : ∀ k, l2 (ix2 0 k) = (L2 k : EReal)) (r : Fin 32) (k : Fin 256) :
    rowMix ya l1 l2 (ix2 r k) = (((1 - Y r) * L1 k + Y r * L2 k : ℝ) : EReal) := by
  pointwise [rowMix]
  simp only [hY, h1, h2, ← EReal.coe_one, ← EReal.coe_add, ← EReal.coe_mul, ← EReal.coe_sub]

/-- A look-up's value: the table's entry at the grey level. -/
theorem lookup_apply (v : FVec Ideal S32x32 .f32) (e : FVec Ideal S32x256 .f32) (r q : Fin 32) (g : Fin 256)
    (hv : v (ix2 r q) = ((g.val : ℝ) : EReal)) : lookup v e (ix2 r q) = e (ix2 r g) := by
  pointwise [lookup]
  simp only [hv]
  rw [Finset.sum_eq_single g]
  · rw [hit_word _ _ (by omega)]; simp
  · intro x _ hx
    rw [hit_word _ _ (by omega), if_neg fun h => hx (Fin.ext h.symm)]; simp
  · simp

/-- The segment's value: the four tables' entries, mixed along the rows first and then along the columns. -/
theorem segment_apply (v : FVec Ideal S32x32 .f32) (ya : FVec Ideal S32x1 .f32) (xa : FVec Ideal S1x32 .f32)
    (l1a l2a l1b l2b : FVec Ideal S1x256 .f32) (Y X : Fin 32 → ℝ) (A1 A2 B1 B2 : Fin 256 → ℝ)
    (hY : ∀ r, ya (ix2 r 0) = (Y r : EReal)) (hX : ∀ q, xa (ix2 0 q) = (X q : EReal))
    (hA1 : ∀ k, l1a (ix2 0 k) = (A1 k : EReal)) (hA2 : ∀ k, l2a (ix2 0 k) = (A2 k : EReal))
    (hB1 : ∀ k, l1b (ix2 0 k) = (B1 k : EReal)) (hB2 : ∀ k, l2b (ix2 0 k) = (B2 k : EReal))
    (r q : Fin 32) (g : Fin 256) (hv : v (ix2 r q) = ((g.val : ℝ) : EReal)) :
    segment v ya xa l1a l2a l1b l2b (ix2 r q) = ((mix (A1 g) (B1 g) (A2 g) (B2 g) (X q) (Y r) : ℝ) : EReal) := by
  pointwise [segment]
  rw [lookup_apply v _ r q g hv, lookup_apply v _ r q g hv, rowMix_apply ya l1a l2a Y A1 A2 hY hA1 hA2,
    rowMix_apply ya l1b l2b Y B1 B2 hY hB1 hB2, hX]
  simp only [← EReal.coe_one, ← EReal.coe_add, ← EReal.coe_mul, ← EReal.coe_sub]
  congr 1
  unfold mix
  ring

/-- The finished stripe's value: the same rounded and clipped value in all three channels. -/
theorem stripe_apply (m : FVec Ideal S32x512 .f32) (r : Fin 32) (x : Fin 512) (a : ℝ) (hm : m (ix2 r x) = (a : EReal))
    (d : Fin 3) :
    stripe m (ix2 r ⟨3 * x + d, by omega⟩) = ((clip255 (Ideal.roundHalfEven a) : ℝ) : EReal) := by
  pointwise [stripe]
  rw [hm, word_255]
  exact clip_round a

section Block

variable (i : grid1.Coords) (x0 : Vec Ideal S1x32x512 .f32) (x1 x2 : Vec Ideal S1x1x8x256 .f32)
  (Gr : Fin 32 → Fin 512 → Fin 256) (L1 L2 : Fin 8 → Fin 256 → ℝ)

/-- What the second kernel's block of a stripe holds before rounding, at row `r` and column `x`, when the stripe's grey
    levels are `Gr` and the tables of the tiles above and below are `L1` and `L2`. -/
def stripeMix (r : Fin 32) (x : Fin 512) : ℝ :=
  mix (L1 (clipTile (cell x)) (Gr r x)) (L1 (clipTile (cell x + 1)) (Gr r x))
    (L2 (clipTile (cell x)) (Gr r x)) (L2 (clipTile (cell x + 1)) (Gr r x)) (frac x) (frac (32 * (i 1).val + r))

/-- The segment that starts at column `o`, at an index of its own. -/
theorem piece_apply (h0 : ∀ r x, x0 (ix3 0 r x) = (((Gr r x).val : ℝ) : EReal))
    (h1 : ∀ t k, x1 (ix4 0 0 t k) = (L1 t k : EReal)) (h2 : ∀ t k, x2 (ix4 0 0 t k) = (L2 t k : EReal))
    (o : ℕ) (hs : S32x512.Slices ![0, o] S32x32) (w : BitVec 32) (hw : Ideal.ofBits .f32 w = ((o : ℝ) : EReal))
    (a b : ℕ) (ha : S8x256.Slices ![a, 0] S1x256) (hb : S8x256.Slices ![b, 0] S1x256) (ho : o % 32 = 0)
    (hta : a = (clipTile (cell o)).val) (htb : b = (clipTile (cell o + 1)).val) (r q : Fin 32)
    (x : Fin 512) (hx : x.val = o + q) :
    segment (extractStridedSlice S32x32 ![0, o] (k1_pay2 (View.ld x0 r1_0)) hs) (k1_pay5 i) (segFrac w)
      (extractStridedSlice S1x256 ![a, 0] (k1_pay3 (View.ld x1 r1_1)) ha)
      (extractStridedSlice S1x256 ![a, 0] (k1_pay4 (View.ld x2 r1_1)) ha)
      (extractStridedSlice S1x256 ![b, 0] (k1_pay3 (View.ld x1 r1_1)) hb)
      (extractStridedSlice S1x256 ![b, 0] (k1_pay4 (View.ld x2 r1_1)) hb) (ix2 r q)
      = ((stripeMix i Gr L1 L2 r x : ℝ) : EReal) := by
  have hca : clipTile (cell x) = clipTile (cell o) := by unfold cell; congr 1; omega
  have hcb : clipTile (cell x + 1) = clipTile (cell o + 1) := by unfold cell; congr 2; omega
  unfold stripeMix
  rw [hca, hcb, hx]
  refine segment_apply _ _ _ _ _ _ _ (fun r => frac (32 * (i 1).val + r)) (fun q => frac (o + q)) _ _ _ _
    (rowFrac_apply i) (segFrac_apply w o hw) ?_ ?_ ?_ ?_ r q (Gr r x) ?_
  · intro k
    pointwise [k1_pay3]
    subst hta; exact h1 _ k
  · intro k
    pointwise [k1_pay4]
    subst hta; exact h2 _ k
  · intro k
    pointwise [k1_pay3]
    subst htb; exact h1 _ k
  · intro k
    pointwise [k1_pay4]
    subst htb; exact h2 _ k
  · pointwise [k1_pay2]
    rw [← h0]; congr 2; exact Fin.ext hx.symm

set_option maxHeartbeats 1000000 in
/-- The sixteen segments' values. -/
theorem segmentOf_apply (h0 : ∀ r x, x0 (ix3 0 r x) = (((Gr r x).val : ℝ) : EReal))
    (h1 : ∀ t k, x1 (ix4 0 0 t k) = (L1 t k : EReal)) (h2 : ∀ t k, x2 (ix4 0 0 t k) = (L2 t k : EReal))
    (n : Fin 16) (r q : Fin 32) (x : Fin 512) (hx : x.val = 32 * n + q) :
    segmentOf i x0 x1 x2 n (ix2 r q) = ((stripeMix i Gr L1 L2 r x : ℝ) : EReal) := by
  fin_cases n <;>
    exact piece_apply i x0 x1 x2 Gr L1 L2 h0 h1 h2 _ _ _ (word_nat (by decide)) _ _ _ _ (by decide) (by decide)
      (by decide) r q x hx

/-- The values of the segments side by side. -/
theorem segments_apply (h0 : ∀ r x, x0 (ix3 0 r x) = (((Gr r x).val : ℝ) : EReal))
    (h1 : ∀ t k, x1 (ix4 0 0 t k) = (L1 t k : EReal)) (h2 : ∀ t k, x2 (ix4 0 0 t k) = (L2 t k : EReal))
    (r : Fin 32) (x : Fin 512) :
    segments i x0 x1 x2 (ix2 r x) = ((stripeMix i Gr L1 L2 r x : ℝ) : EReal) := by
  unfold segments
  refine (concatenate_ofFn_apply (t := S32x512) (s₁ := S32x32) 1 _ _ rfl 32 rfl (ix2 r x) (⟨x / 32, by omega⟩ : Fin 16) rfl
    (ix2 r (⟨x % 32, by omega⟩ : Fin 32)) rfl ?_).trans ?_
  · intro b hb
    match b with
    | ⟨0, _⟩ => rfl
    | ⟨1, _⟩ => exact absurd rfl hb
  · exact segmentOf_apply i x0 x1 x2 Gr L1 L2 h0 h1 h2 _ r _ x (by simp only []; omega)

/-- What the second kernel stores: the mixed values rounded and clipped, three times over. -/
theorem out1_3_apply (h0 : ∀ r x, x0 (ix3 0 r x) = (((Gr r x).val : ℝ) : EReal))
    (h1 : ∀ t k, x1 (ix4 0 0 t k) = (L1 t k : EReal)) (h2 : ∀ t k, x2 (ix4 0 0 t k) = (L2 t k : EReal))
    (r : Fin 32) (x : Fin 512) (d : Fin 3) :
    out1_3 (F := Ideal) i x0 x1 x2 (ix3 0 r ⟨3 * x + d, by omega⟩)
      = ((clip255 (Ideal.roundHalfEven (stripeMix i Gr L1 L2 r x)) : ℝ) : EReal) := by
  rw [out1_3_eq, View.canon_unit_zero (by decide), ← stripe_apply _ r x _ (segments_apply i x0 x1 x2 Gr L1 L2 h0 h1 h2 r x) d]
  pointwise [k1_pay1]

end Block

end Cert.KernelIdeal.Hand

end
-- ==== Proof.KerGray.lean ====
module

public import proofs.«01_k».proof.Proof.Words
public import proofs.«01_k».proof.Proof.Gen.KernelIdeal.Frame

@[expose] public section

/-! # One band of the first kernel: its grey levels

    The body multiplies the rounded-down channel values by a 0/1 matrix that gathers channel `c` of pixel `x` into column
    `512 * c + x`, and weighs the three column blocks. -/

set_option maxRecDepth 16384

noncomputable section

namespace Cert.KernelIdeal.Hand

open Cert.KernelIdeal Cert.KernelIdeal.Gen Cert.Clahe Idealize.ShloMosaic

/-- A row of integers times a column of the 0/1 matrix that picks out entry `3 * x + c` is that entry. -/
theorem pick_sum (f : Fin 1536 → ℤ) (P : Fin 1536 → EReal) (m : Fin 1536) (hP : ∀ j, P j = if j = m then 1 else 0) :
    ∑ j : Fin 1536, (((f j : ℤ) : ℝ) : EReal) * P j = (((f m : ℤ) : ℝ) : EReal) := by
  simp only [hP, mul_ite, mul_one, mul_zero, Finset.sum_ite_eq', Finset.mem_univ, if_true]

/-- The grey level at row `r` and column `x` of a band. -/
def bandGray (x0 : FVec Ideal S1x64x1536 .f32) (r : Fin 64) (x : Fin 512) : ℕ :=
  grayOf (pix (x0 (ix3 0 r ⟨3 * x, by omega⟩))) (pix (x0 (ix3 0 r ⟨3 * x + 1, by omega⟩)))
    (pix (x0 (ix3 0 r ⟨3 * x + 2, by omega⟩)))

/-- The band's grey levels, as the body computes them. -/
theorem grayBand_apply (x0 : FVec Ideal S1x64x1536 .f32) (x1 : FVec Ideal S1536x1536 .bf16)
    (h1 : ∀ j k : Fin 1536, x1 (ix2 j k) = if (j : ℕ) = 3 * (k % 512) + k / 512 then 1 else 0)
    (r : Fin 64) (x : Fin 512) :
    k0_pay2 (F := Ideal) x0 x1 (ix2 r x) = ((bandGray x0 r x : ℝ) : EReal) := by
  pointwise [k0_pay2]
  simp only [word_255, word_w0, word_w1, word_w2, floor_clip]
  rw [pick_sum _ _ ⟨3 * x, by omega⟩ fun j => (h1 j _).trans (if_congr
      ⟨fun e => Fin.ext (e.trans (by simp only []; omega)), fun e => by subst e; simp only []; omega⟩ rfl rfl),
    pick_sum _ _ ⟨3 * x + 1, by omega⟩ fun j => (h1 j _).trans (if_congr
      ⟨fun e => Fin.ext (e.trans (by simp only []; omega)), fun e => by subst e; simp only []; omega⟩ rfl rfl),
    pick_sum _ _ ⟨3 * x + 2, by omega⟩ fun j => (h1 j _).trans (if_congr
      ⟨fun e => Fin.ext (e.trans (by simp only []; omega)), fun e => by subst e; simp only []; omega⟩ rfl rfl)]
  simp only [← EReal.coe_mul, ← EReal.coe_add]
  exact clip_round _

end Cert.KernelIdeal.Hand

end
-- ==== Proof.KerTile.lean ====
module

public import proofs.«01_k».proof.Proof.KerGray
public import Idealize.ShloMosaic.Lib.Pipeline.ValueKit

@[expose] public section

/-! # One tile of the first kernel: its histogram row and its table row

    The first kernel's body treats the eight tiles of a band alike. Here the operations on one tile are named once, the
    body's stored values are those operations at the eight tiles, and each operation's value is computed once. -/

set_option maxRecDepth 16384

noncomputable section

namespace Cert.KernelIdeal.Hand

open Cert.KernelIdeal Cert.KernelIdeal.Gen Cert.Clahe Idealize.ShloMosaic

variable {F : FTy → Type} [FloatOps F]

/-- The histogram of a 64 × 64 tile as the body counts it: the tile compared with every bin, the hits added up. -/
def histRow (v : FVec F S64x64 .f32) : FVec F S1x256 .f32 :=
  shapeCast S1x256
    (multiReduction .add [0, 1] S256
      (sitofp .f32 (extui 32 (cmpf .oeq
        (broadcastTo S64x64x256 (shapeCast S64x64x1 v shapeCasts_S64x64_S64x64x1) broadcasts_S64x64x1_S64x64x256)
        (sitofp .f32 (iota .tc S64x64x256 32 [2] iota_S64x64x256_d2_w32))) natLt_1_32))
      0x00000000#32 reduces_S64x64x256_S256 (.inl rfl) rfl) shapeCasts_S256_S1x256

/-- The clipped and spread histogram as the body computes it. -/
def spreadRow (h : FVec F S1x256 .f32) : FVec F S1x256 .f32 :=
  addf (minimumf h (broadcast S1x256 (Scalar.ofBits .f32 0x42A00000#32)))
    (broadcast S1x256 (Scalar.mulf
      (extractAt ![0, 0, 0] (shapeCast S1x1x1 (multiReduction .add [1, 2] S1
        (shapeCast S1x1x256 (maximumf (subf h (broadcast S1x256 (Scalar.ofBits .f32 0x42A00000#32)))
          (broadcast S1x256 (Scalar.ofBits .f32 0x00000000#32))) shapeCasts_S1x256_S1x1x256)
        0x00000000#32 reduces_S1x1x256_S1 (.inl rfl) rfl) shapeCasts_S1_S1x1x1) inpos_S1x1x1_p0_0_0)
      (Scalar.ofBits .f32 0x3B800000#32)))

/-- The table row of a histogram as the body computes it: running sums by a matrix product, scaled, rounded, clipped. -/
def lutRow (h : FVec F S1x256 .f32) (tri : FVec F S256x256 .f32) : FVec F S1x256 .f32 :=
  minimumf (broadcast S1x256 (Scalar.ofBits .f32 0x437F0000#32))
    (maximumf (broadcast S1x256 (Scalar.ofBits .f32 0x00000000#32))
      (roundeven (mulf
        (matmul dot_S1x256_S256x256_S1x256_1_0_0_1_n_n none (spreadRow h)
          (shapeCast S256x256 tri shapeCasts_S256x256_S256x256) (constant S1x256 .f32 0x00000000#32))
        (broadcast S1x256 (Scalar.ofBits .f32 0x3D7F0000#32)))))

/-- The table row of a tile. -/
def tileRow (v : FVec F S64x64 .f32) (tri : FVec F S256x256 .f32) : FVec F S1x256 .f32 := lutRow (histRow v) tri

/-- Each tile lies within the band. -/
theorem slices_tile : ∀ n : Fin 8, S64x512.Slices ![0, 64 * n.val] S64x64 := by decide

/-- The eight tiles' table rows. -/
def tileOf (x0 : Vec F S1x64x1536 .f32) (x1 : Vec F S1536x1536 .bf16) (x2 : Vec F S256x256 .f32) (n : Fin 8) : FVec F S1x256 .f32 :=
  tileRow (extractStridedSlice S64x64 ![0, 64 * n.val] (k0_pay2 (View.ld x0 r0_0) (View.ld x1 r0_1)) (slices_tile n)) (View.ld x2 r0_3)

/-- The eight tiles' table rows, one under the other. -/
def tiles (x0 : Vec F S1x64x1536 .f32) (x1 : Vec F S1536x1536 .bf16) (x2 : Vec F S256x256 .f32) : FVec F S8x256 .f32 :=
  concatenate S8x256 0 (List.ofFn fun n : Fin 8 => (⟨S1x256, tileOf x0 x1 x2 n⟩ : (s : Shape) × (s.Idx → F .f32)))
    concatenates_S1x256_S1x256_S1x256_S1x256_S1x256_S1x256_S1x256_S1x256_S8x256_d0

/-- The stored table block is the eight tiles' table rows. -/
theorem out0_3_eq (x0 : Vec F S1x64x1536 .f32) (x1 : Vec F S1536x1536 .bf16) (x2 : Vec F S256x256 .f32) :
    out0_3 x0 x1 x2 = View.canon [⟨r0_4, shapeCast S1x1x8x256 (tiles x0 x1 x2) shapeCasts_S8x256_S1x1x8x256⟩] := rfl

/-- A sum over the two front axes, read at one entry of the last. -/
theorem reduceAdd_front (h : S64x64x256.Reduces [0, 1] S256) (x : S64x64x256.Idx → EReal) (k : Fin 256) :
    Ideal.reduceAdd h x (ix1 k) = ∑ r : Fin 64, ∑ q : Fin 64, x (ix3 r q k) := by
  have fib : ∀ i : S64x64x256.Idx, h.drop i = ix1 k ↔ ∃ p : Fin 64 × Fin 64, ix3 p.1 p.2 k = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e (0 : Fin 1))).symm
    · rintro ⟨p, rfl⟩
      funext b; apply Fin.ext
      match b with
      | ⟨0, _⟩ => rfl
  refine (Finset.sum_filter_eq_sum_of_fiber _ (fun p : Fin 64 × Fin 64 => ix3 p.1 p.2 k)
    (fun _ _ e => Prod.ext (congrFun e 0) (congrFun e 1)) fib x).trans ?_
  simp only [Fintype.sum_prod_type]

/-- A tile that holds natural numbers is counted into its histogram. -/
theorem histRow_apply (v : FVec Ideal S64x64 .f32) (G : Fin 64 → Fin 64 → ℕ)
    (hv : ∀ r q, v (ix2 r q) = ((G r q : ℝ) : EReal)) (k : Fin 256) :
    histRow v (ix2 0 k) = ((hist G k : ℝ) : EReal) := by
  pointwise [histRow]
  refine (reduceAdd_front _ _ k).trans ?_
  have hit : ∀ r q : Fin 64, (sitofp .f32 (extui 32 (cmpf .oeq
        (broadcastTo S64x64x256 (shapeCast S64x64x1 v shapeCasts_S64x64_S64x64x1) broadcasts_S64x64x1_S64x64x256)
        (sitofp .f32 (iota .tc S64x64x256 32 [2] iota_S64x64x256_d2_w32))) natLt_1_32) : FVec Ideal S64x64x256 .f32)
        (ix3 r q k) = (((if G r q = (k : ℕ) then 1 else 0 : ℕ) : ℝ) : EReal) := by
    intro r q
    pointwise
    rw [hv]
    exact hit_word _ _ (by omega)
  simp only [hit, coe_sum, hist, Finset.card_filter, ← Nat.cast_sum, Fintype.sum_prod_type]

/-- The spread histogram's value. -/
theorem spreadRow_apply (h : FVec Ideal S1x256 .f32) (H : Fin 256 → ℝ) (hh : ∀ k, h (ix2 0 k) = (H k : EReal))
    (k : Fin 256) : spreadRow h (ix2 0 k) = ((spread H k : ℝ) : EReal) := by
  pointwise [spreadRow]
  simp only [hh, word_80, word_inv256]
  simp only [Fin.sum_univ_one, Finset.univ_unique, Finset.sum_singleton, ← EReal.coe_sub, ← EReal.coe_zero, coe_max,
    coe_min, coe_sum, ← EReal.coe_mul, ← EReal.coe_add, spread, excess]

/-- The table row's value. -/
theorem lutRow_apply (h : FVec Ideal S1x256 .f32) (H : Fin 256 → ℝ) (hh : ∀ k, h (ix2 0 k) = (H k : EReal))
    (tri : FVec Ideal S256x256 .f32) (ht : ∀ k v, tri (ix2 k v) = if k ≤ v then 1 else 0) (v : Fin 256) :
    lutRow h tri (ix2 0 v) = ((lutOf H v : ℝ) : EReal) := by
  pointwise [lutRow]
  have e : ∀ x : Fin 256, ((spread H x : ℝ) : EReal) * (if x ≤ v then 1 else 0)
      = (((if x ≤ v then spread H x else 0 : ℝ)) : EReal) := fun x => by split_ifs <;> simp
  simp only [spreadRow_apply h H hh, ht, word_255, word_scale, e, coe_sum, ← EReal.coe_mul]
  exact clip_round _

section Block

variable (x0 : Vec Ideal S1x64x1536 .f32) (x1 : Vec Ideal S1536x1536 .bf16) (x2 : Vec Ideal S256x256 .f32)
  (h1 : ∀ j k : Fin 1536, x1 (ix2 j k) = if (j : ℕ) = 3 * (k % 512) + k / 512 then 1 else 0)
  (h2 : ∀ k v : Fin 256, x2 (ix2 k v) = if k ≤ v then 1 else 0)

/-- The grey levels of tile `n` of a band. -/
def bandTile (n : Fin 8) (r q : Fin 64) : ℕ := bandGray x0 r ⟨64 * n + q, by omega⟩

include h1 h2 in
/-- The eight tiles' table rows' values. -/
theorem tileOf_apply (n : Fin 8) (k : Fin 256) :
    tileOf x0 x1 x2 n (ix2 0 k) = ((lutOf (fun k => (hist (bandTile x0 n) k : ℝ)) k : ℝ) : EReal) := by
  unfold tileOf
  rw [View.ld_unit_zero (by decide), View.ld_unit_zero (by decide), View.ld_unit_zero (by decide)]
  refine lutRow_apply _ _ (histRow_apply _ _ fun r q => ?_) _ h2 k
  pointwise
  exact grayBand_apply x0 x1 h1 r _

include h1 h2 in
/-- What the first kernel stores of the tables: every tile's table. -/
theorem out0_3_apply (n : Fin 8) (k : Fin 256) :
    out0_3 (F := Ideal) x0 x1 x2 (ix4 0 0 n k) = ((lutOf (fun k => (hist (bandTile x0 n) k : ℝ)) k : ℝ) : EReal) := by
  rw [out0_3_eq, View.canon_unit_zero (by decide), ← tileOf_apply x0 x1 x2 h1 h2]
  pointwise
  unfold tiles
  refine (concatenate_ofFn_apply (t := S8x256) (s₁ := S1x256) 0 _ _ rfl 1 rfl (ix2 n k) n
    (Nat.div_one _) (ix2 0 k) (Nat.mod_one _).symm ?_)
  intro b hb
  match b with
  | ⟨0, _⟩ => exact absurd rfl hb
  | ⟨1, _⟩ => rfl

include h1 in
/-- What the first kernel stores of the grey levels. -/
theorem out0_4_apply (r : Fin 64) (x : Fin 512) :
    out0_4 (F := Ideal) x0 x1 x2 (ix3 0 r x) = ((bandGray x0 r x : ℝ) : EReal) := by
  unfold out0_4
  rw [View.canon_unit_zero (by decide), View.ld_unit_zero (by decide), View.ld_unit_zero (by decide),
    ← grayBand_apply x0 x1 h1 r x]
  pointwise [k0_pay3]

end Block

end Cert.KernelIdeal.Hand

end
-- ==== Proof.KerHost.lean ====
module

public import proofs.«01_k».proof.Proof.Words
public import proofs.«01_k».proof.Proof.Gen.KernelIdeal.Frame
public import Idealize.ShloMosaic.Lib.StableHlo.ReadAt
public import Idealize.ShloMosaic.Lib.Routing.Words

@[expose] public section

/-! # The arrays that the host hands to the first kernel

    The image with its channels laid out along the rows, the 0/1 matrix that gathers channels, and the 0/1 matrix of
    running sums. -/

set_option maxRecDepth 16384

noncomputable section

namespace Cert.KernelIdeal.Hand

open Cert.KernelIdeal Cert.KernelIdeal.Gen Cert.Clahe Idealize.ShloMosaic Idealize.ShloMosaic.TcCoe

variable (m : (ℓ : Loc nD τ sig) → Buf (Elt Ideal) ℓ) (ρ : Dev nD → PrngReg)

/-- The float of one bit. -/
theorem uitofp_bit (φ : FTy) (p : Prop) [Decidable p] :
    (FloatOps.uitofp φ (BitVec.ofBool (decide p)) : Ideal φ) = if p then (1 : EReal) else 0 := by
  by_cases h : p
  · simp only [h, decide_true, if_true]
    change (((BitVec.ofBool true).toNat : ℝ) : EReal) = 1
    simp
  · simp only [h, decide_false, if_false]
    change (((BitVec.ofBool false).toNat : ℝ) : EReal) = 0
    simp

/-- The matrix of running sums. -/
theorem tri_apply (c : Dev nD) (k v : Fin 256) :
    (W5 m ρ c (Proc.devRef .tc main_v7) : S256x256.Idx → EReal) (ix2 k v) = if k ≤ v then (1 : EReal) else 0 := by
  rw [W5_of m ρ c main_v7 (by decide), W4_of m ρ c main_v7 (by decide), W3_of m ρ c main_v7 (by decide),
    W2_of m ρ c main_v7 (by decide)]
  after_reads_at
  have e : (BitVec.ofNat 32 k.val).sle (BitVec.ofNat 32 v.val) = decide (k ≤ v) := by
    rw [Bool.eq_iff_iff, BitVec.sle_iff_toInt_le, toInt_nat _ (by omega), toInt_nat _ (by omega), decide_eq_true_eq,
      Fin.le_def]
    omega
  exact (congrArg (fun w => FloatOps.uitofp .f32 (BitVec.ofBool w)) e).trans (uitofp_bit _ _)

/-- The place to which the host's word arithmetic sends column `j`: pixel `j / 3` of channel `j % 3`. -/
def placeWord (r q j : BitVec 32) : BitVec 32 :=
  IntOp.addi
    (IntOp.muli (512#32)
      (Scalar.select
        (IntOp.andi
          (IntOp.cmpi .ne
            (IntOp.cmpi .slt r 0#32)
            (IntOp.cmpi .slt (Scalar.select (IntOp.cmpi .eq 3#32 0#32) (1#32) 3#32) 0#32))
          (IntOp.cmpi .ne r 0#32))
        (IntOp.addi r (Scalar.select (IntOp.cmpi .eq 3#32 0#32) (1#32) 3#32))
        r))
    (Scalar.select
      (IntOp.andi
        (IntOp.cmpi .ne
          (if j = 0 then (0 : BitVec 32) else if j.msb = true then -1 else 1)
          (if (3#32 : BitVec 32) = 0 then (0 : BitVec 32) else if BitVec.msb 3#32 = true then -1 else 1))
        (IntOp.cmpi .ne r 0#32))
      (IntOp.subi q 1#32) q)

/-- That place, as a number. -/
theorem placeWord_eq : ∀ j : Fin 1536,
    placeWord (BitVec.ofNat 32 (j % 3)) (BitVec.ofNat 32 (j / 3)) (BitVec.ofNat 32 j) = BitVec.ofNat 32 (512 * (j % 3) + j / 3) := by
  decide +kernel

/-- The matrix that gathers channels. -/
theorem perm_apply (c : Dev nD) (j k : Fin 1536) :
    (W5 m ρ c (Proc.devRef .tc main_v21) : S1536x1536.Idx → EReal) (ix2 j k)
      = if (j : ℕ) = 3 * (k % 512) + k / 512 then (1 : EReal) else 0 := by
  after_reads_at
  have h3 : id (constantI S_ 32 3#32) ix0 = 3#32 := rfl
  have hs : (Scalar.select (IntOp.cmpi .eq 3#32 0#32) (1#32) 3#32 : BitVec 32) = 3#32 := by decide
  have hr : IntOp.remsi ArithUnit.host (BitVec.ofNat 32 j) 3#32 = BitVec.ofNat 32 (j % 3) :=
    Routing.remsi_word _ (by omega) (by omega) (by omega)
  have hd : IntOp.divsi ArithUnit.host (BitVec.ofNat 32 j) 3#32 = BitVec.ofNat 32 (j / 3) :=
    Routing.divsi_word _ (by omega) (by omega) (by omega)
  simp only [h3, hs, hr, hd]
  have hp := placeWord_eq j
  unfold placeWord at hp
  simp only [hs] at hp
  have e : (BitVec.ofNat 32 k.val == BitVec.ofNat 32 (512 * (j % 3) + j / 3)) = decide ((j : ℕ) = 3 * (k % 512) + k / 512) := by
    rw [Bool.eq_iff_iff, beq_iff_eq, decide_eq_true_eq, ← BitVec.toNat_inj, BitVec.toNat_ofNat, BitVec.toNat_ofNat,
      Nat.mod_eq_of_lt (by omega), Nat.mod_eq_of_lt (by omega)]
    omega
  refine (congrArg (fun w => FloatOps.uitofp .bf16 (IntOp.cmpi .eq (BitVec.ofNat 32 k.val) w)) hp).trans ?_
  exact (congrArg (fun w => FloatOps.uitofp .bf16 (BitVec.ofBool w)) e).trans (uitofp_bit _ _)

/-- The image as the first kernel reads it. -/
theorem img_apply (c : Dev nD) (b : Fin 128) (y x : Fin 512) (d : Fin 3) :
    (W5 m ρ c (Proc.devRef .tc main_v8) : S128x512x1536.Idx → EReal) (ix3 b y ⟨3 * x + d, by omega⟩)
      = (m ((c : Thread nD τ).loc main_arg0) : S128x512x512x3.Idx → EReal) (ix4 b y x d) := by
  rw [W5_of m ρ c main_v8 (by decide), W4_of m ρ c main_v8 (by decide), W3_of m ρ c main_v8 (by decide),
    W2_of m ρ c main_v8 (by decide)]
  after_reads_at

end Cert.KernelIdeal.Hand

end
-- ==== Proof.KerArrays.lean ====
module

public import proofs.«01_k».proof.Proof.KerTile
public import proofs.«01_k».proof.Proof.KerHost
public import Idealize.ShloMosaic.Lib.Pipeline.ValueKit
public import Idealize.ShloMosaic.Lib.Pipeline.Covers

@[expose] public section

/-! # The arrays after the first kernel

    The first kernel leaves the table of every tile in one array and the grey level of every pixel in another. -/

set_option maxRecDepth 16384

noncomputable section

namespace Cert.KernelIdeal.Hand

open Cert.KernelIdeal Cert.KernelIdeal.Gen Cert.Clahe Idealize.ShloMosaic Idealize.ShloMosaic.TcCoe

variable (m : (ℓ : Loc nD τ sig) → Buf (Elt Ideal) ℓ) (ρ : Dev nD → PrngReg) (c : Dev nD)

/-- The image in the kernel's argument. -/
def imgK : Img := fun b y x d => (m ((c : Thread nD τ).loc main_arg0) : S128x512x512x3.Idx → EReal) (ix4 b y x d)

/-- Where the first kernel's windows lie at each grid point. -/
theorem index0 : ∀ t : Fin cfg0.N,
    win0_0.index t = ![(grid0.coords t 0).val, (grid0.coords t 1).val, 0] ∧ win0_1.index t = ![0, 0]
      ∧ win0_2.index t = ![0, 0] ∧ win0_3.index t = ![(grid0.coords t 0).val, (grid0.coords t 1).val, 0, 0]
      ∧ win0_4.index t = ![(grid0.coords t 0).val, (grid0.coords t 1).val, 0] :=
  (by decide +kernel : ∀ t : Fin grid0.N, _)

section Point
variable (t : Fin cfg0.N)

/-- The batch of a grid point. -/
def batch0 : Fin 128 := ⟨(grid0.coords t 0).val, (grid0.coords t 0).isLt⟩
/-- The row of tiles of a grid point. -/
def band0 : Fin 8 := ⟨(grid0.coords t 1).val, (grid0.coords t 1).isLt⟩

/-- The image block at a grid point. -/
theorem block0_img (r : Fin 64) (x : Fin 512) (d : Fin 3) :
    (iblk0 (V5 m ρ) c 0 t : S1x64x1536.Idx → EReal) (ix3 0 r ⟨3 * x + d, by omega⟩)
      = imgK m c (batch0 t) ⟨64 * band0 t + r, by omega⟩ x d := by
  refine Eq.trans ?_ (img_apply m ρ c (batch0 t) ⟨64 * band0 t + r, by omega⟩ x d)
  blk_ext [iblk0, (index0 t).1, batch0, band0]

/-- The gathering matrix at a grid point. -/
theorem block0_perm (j k : Fin 1536) :
    (iblk0 (V5 m ρ) c 1 t : S1536x1536.Idx → EReal) (ix2 j k) = if (j : ℕ) = 3 * (k % 512) + k / 512 then (1 : EReal) else 0 := by
  refine Eq.trans ?_ (perm_apply m ρ c j k)
  blk_ext [iblk0, (index0 t).2.1]

/-- The matrix of running sums at a grid point. -/
theorem block0_tri (k v : Fin 256) :
    (iblk0 (V5 m ρ) c 2 t : S256x256.Idx → EReal) (ix2 k v) = if k ≤ v then (1 : EReal) else 0 := by
  refine Eq.trans ?_ (tri_apply m ρ c k v)
  blk_ext [iblk0, (index0 t).2.2.1]

/-- The grey levels that the kernel finds at a grid point. -/
theorem bandGray_block (r : Fin 64) (x : Fin 512) :
    bandGray (iblk0 (V5 m ρ) c 0 t) r x = gray (imgK m c) (batch0 t) ⟨64 * band0 t + r, by omega⟩ x := by
  unfold bandGray gray
  exact congr (congrArg₂ grayOf (congrArg pix (block0_img m ρ c t r x 0)) (congrArg pix (block0_img m ρ c t r x 1)))
    (congrArg pix (block0_img m ρ c t r x 2))

end Point

/-- The tables, as an array. -/
def lutArr (I : Img) : S128x8x8x256.Idx → EReal := fun j => ((lut I (j 0) (j 1) (j 2) (j 3) : ℝ) : EReal)

/-- The grey levels, as an array. -/
def grayArr (I : Img) : S128x512x512.Idx → EReal := fun j => ((gray I (j 0) (j 1) (j 2) : ℝ) : EReal)

/-- A number below 2³² is the number of its word. -/
theorem word_toNat (n : ℕ) (h : n < 2 ^ 32) : (BitVec.ofNat 32 n).toNat = n := by
  rw [BitVec.toNat_ofNat, Nat.mod_eq_of_lt h]

/-- The grid point of a batch and a row of tiles. -/
def point0 (b : Fin 128) (ty : Fin 8) : grid0.Coords := fun a => match a with
  | ⟨0, _⟩ => b
  | ⟨1, _⟩ => ty

/-- Every block of tables is some grid point's. -/
theorem covers0_3 : (cfg0.win 3).Covers :=
  (cfg0.win 3).covers_of_indexMap_surj rfl (by decide) fun β =>
    ⟨point0 ⟨(β 0).val, (β 0).isLt⟩ ⟨(β 1).val, (β 1).isLt⟩, fun a => match a with
      | ⟨0, _⟩ => word_toNat _ ((β 0).isLt.trans (by decide))
      | ⟨1, _⟩ => word_toNat _ ((β 1).isLt.trans (by decide))
      | ⟨2, _⟩ => (Nat.lt_one_iff.mp (β 2).isLt).symm
      | ⟨3, _⟩ => (Nat.lt_one_iff.mp (β 3).isLt).symm⟩

/-- Every block of grey levels is some grid point's. -/
theorem covers0_4 : (cfg0.win 4).Covers :=
  (cfg0.win 4).covers_of_indexMap_surj rfl (by decide) fun β =>
    ⟨point0 ⟨(β 0).val, (β 0).isLt⟩ ⟨(β 1).val, (β 1).isLt⟩, fun a => match a with
      | ⟨0, _⟩ => word_toNat _ ((β 0).isLt.trans (by decide))
      | ⟨1, _⟩ => word_toNat _ ((β 1).isLt.trans (by decide))
      | ⟨2, _⟩ => (Nat.lt_one_iff.mp (β 2).isLt).symm⟩

/-- The array of tables after the first kernel. -/
theorem arr0_3 : (dat0 (V5 m ρ) c).arrAt 3 cfg0.N = lutArr (imgK m c) := by
  refine (dat0 (V5 m ρ) c).arrAt_eq_of_covers 3 _ covers0_3 fun t hf y => ?_
  blk_simp
  rw [after0_3]
  idx_vars y
  obtain rfl : y0 = 0 := Subsingleton.elim _ _
  obtain rfl : y1 = 0 := Subsingleton.elim _ _
  have e : ((win0_3.blk t).view.emb (ix4 0 0 y2 y3) : S128x8x8x256.Idx) = ix4 (batch0 t) (band0 t) y2 y3 := by
    blk_ext [(index0 t).2.2.2.1, batch0, band0]
  refine (out0_3_apply _ _ _ (block0_perm m ρ c t) (block0_tri m ρ c t) y2 y3).trans ?_
  refine Eq.trans ?_ (congrArg (lutArr (imgK m c)) e).symm
  have hG : bandTile (iblk0 (V5 m ρ) c 0 t) y2 = tile (imgK m c) (batch0 t) (band0 t) y2 := by
    funext r q
    exact bandGray_block m ρ c t r ⟨64 * y2 + q, by omega⟩
  rw [hG]
  rfl

/-- The array of grey levels after the first kernel. -/
theorem arr0_4 : (dat0 (V5 m ρ) c).arrAt 4 cfg0.N = grayArr (imgK m c) := by
  refine (dat0 (V5 m ρ) c).arrAt_eq_of_covers 4 _ covers0_4 fun t hf y => ?_
  blk_simp
  rw [after0_4]
  idx_vars y
  obtain rfl : y0 = 0 := Subsingleton.elim _ _
  have e : ((win0_4.blk t).view.emb (ix3 0 y1 y2) : S128x512x512.Idx) = ix3 (batch0 t) ⟨64 * band0 t + y1, by omega⟩ y2 := by
    blk_ext [(index0 t).2.2.2.2, batch0, band0]
  refine (out0_4_apply _ _ _ (block0_perm m ρ c t) y1 y2).trans ?_
  refine Eq.trans ?_ (congrArg (grayArr (imgK m c)) e).symm
  rw [bandGray_block]
  rfl

end Cert.KernelIdeal.Hand

end
-- ==== Proof.KerOut.lean ====
module

public import proofs.«01_k».proof.Proof.KerSeg
public import proofs.«01_k».proof.Proof.KerArrays

@[expose] public section

/-! # The kernel's result

    The second kernel leaves the equalised image with its channels interleaved in the last axis, and the host splits that
    axis into pixels and channels. -/

set_option maxRecDepth 16384

noncomputable section

namespace Cert.KernelIdeal.Hand

open Cert.KernelIdeal Cert.KernelIdeal.Gen Cert.Clahe Idealize.ShloMosaic Idealize.ShloMosaic.TcCoe

variable (m : (ℓ : Loc nD τ sig) → Buf (Elt Ideal) ℓ) (ρ : Dev nD → PrngReg) (c : Dev nD)

/-- Where the second kernel's windows lie at each grid point: the grey levels and the result at the stripe's rows, the two
    blocks of tables at the rows of tiles before and after them. -/
theorem index1 : ∀ t : Fin cfg1.N,
    win1_0.index t = ![(grid1.coords t 0).val, (grid1.coords t 1).val, 0]
      ∧ win1_1.index t = ![(grid1.coords t 0).val, (clipTile ((((grid1.coords t 1).val : ℤ) - 1) / 2)).val, 0, 0]
      ∧ win1_2.index t = ![(grid1.coords t 0).val, (clipTile ((((grid1.coords t 1).val : ℤ) - 1) / 2 + 1)).val, 0, 0]
      ∧ win1_3.index t = ![(grid1.coords t 0).val, (grid1.coords t 1).val, 0] :=
  (by decide +kernel : ∀ t : Fin grid1.N, _)

/-- The tables when the second kernel starts. -/
theorem entry_lut : W6 m ρ c (Proc.devRef .tc main_v22_0) = lutArr (imgK m c) :=
  (W6_arr m ρ c 3).trans (arr0_3 m ρ c)

/-- The grey levels when the second kernel starts. -/
theorem entry_gray : W6 m ρ c (Proc.devRef .tc main_v22_1) = grayArr (imgK m c) :=
  (W6_arr m ρ c 4).trans (arr0_4 m ρ c)

section Point
variable (t : Fin cfg1.N)

/-- The batch of a grid point. -/
def batch1 : Fin 128 := ⟨(grid1.coords t 0).val, (grid1.coords t 0).isLt⟩
/-- The stripe of a grid point. -/
def stripe1 : Fin 16 := ⟨(grid1.coords t 1).val, (grid1.coords t 1).isLt⟩
/-- The row of tiles at or before a grid point's stripe. -/
def above1 : Fin 8 := clipTile (((stripe1 t : ℕ) - 1 : ℤ) / 2)
/-- The row of tiles after a grid point's stripe. -/
def below1 : Fin 8 := clipTile (((stripe1 t : ℕ) - 1 : ℤ) / 2 + 1)

/-- The grey levels at a grid point. -/
def levels1 (r : Fin 32) (x : Fin 512) : Fin 256 :=
  ⟨gray (imgK m c) (batch1 t) ⟨32 * stripe1 t + r, by omega⟩ x, gray_lt _ _ _ _⟩

/-- The band of grey levels that a grid point of the second kernel reads. -/
theorem block1_gray (r : Fin 32) (x : Fin 512) :
    (iblk1 (V6 m ρ) c 0 t : S1x32x512.Idx → EReal) (ix3 0 r x) = (((levels1 m c t r x).val : ℝ) : EReal) := by
  refine Eq.trans ?_ (congrFun (entry_gray m ρ c) (ix3 (batch1 t) ⟨32 * stripe1 t + r, by omega⟩ x))
  blk_ext [iblk1, (index1 t).1, batch1, stripe1]

/-- The tables of the tile row above that a grid point of the second kernel reads. -/
theorem block1_above (n : Fin 8) (k : Fin 256) :
    (iblk1 (V6 m ρ) c 1 t : S1x1x8x256.Idx → EReal) (ix4 0 0 n k) = ((lut (imgK m c) (batch1 t) (above1 t) n k : ℝ) : EReal) := by
  refine Eq.trans ?_ (congrFun (entry_lut m ρ c) (ix4 (batch1 t) (above1 t) n k))
  blk_ext [iblk1, (index1 t).2.1, batch1, above1, stripe1]

/-- The tables of the tile row below that a grid point of the second kernel reads. -/
theorem block1_below (n : Fin 8) (k : Fin 256) :
    (iblk1 (V6 m ρ) c 2 t : S1x1x8x256.Idx → EReal) (ix4 0 0 n k) = ((lut (imgK m c) (batch1 t) (below1 t) n k : ℝ) : EReal) := by
  refine Eq.trans ?_ (congrFun (entry_lut m ρ c) (ix4 (batch1 t) (below1 t) n k))
  blk_ext [iblk1, (index1 t).2.2.1, batch1, below1, stripe1]

/-- What the kernel computes at a pixel of a stripe is the equalised grey level. -/
theorem stripe_out (r : Fin 32) (x : Fin 512) :
    clip255 (Ideal.roundHalfEven (stripeMix (grid1.coords t) (levels1 m c t)
        (fun n k => (lut (imgK m c) (batch1 t) (above1 t) n k : ℝ)) (fun n k => (lut (imgK m c) (batch1 t) (below1 t) n k : ℝ)) r x))
      = out (imgK m c) (batch1 t) ⟨32 * stripe1 t + r, by omega⟩ x := by
  have h : cell (32 * (stripe1 t).val + r.val) = ((stripe1 t).val - 1 : ℤ) / 2 := by
    unfold cell
    push_cast
    omega
  have hs : (grid1.coords t 1).val = (stripe1 t).val := rfl
  unfold out stripeMix above1 below1
  rw [← h, hs]
  rfl

end Point

/-- The equalised image with its channels interleaved, as an array. -/
def outArr (I : Img) : S128x512x1536.Idx → EReal := fun j =>
  ((out I (j 0) (j 1) ⟨(j 2).val / 3, by have h : (j 2).val < 1536 := (j 2).isLt; omega⟩ : ℝ) : EReal)

/-- The grid point of a batch and a stripe. -/
def point1 (b : Fin 128) (s : Fin 16) : grid1.Coords := fun a => match a with
  | ⟨0, _⟩ => b
  | ⟨1, _⟩ => s

/-- Every block of the result is some grid point's. -/
theorem covers1_3 : (cfg1.win 3).Covers :=
  (cfg1.win 3).covers_of_indexMap_surj rfl (by decide) fun β =>
    ⟨point1 ⟨(β 0).val, (β 0).isLt⟩ ⟨(β 1).val, (β 1).isLt⟩, fun a => match a with
      | ⟨0, _⟩ => word_toNat _ ((β 0).isLt.trans (by decide))
      | ⟨1, _⟩ => word_toNat _ ((β 1).isLt.trans (by decide))
      | ⟨2, _⟩ => (Nat.lt_one_iff.mp (β 2).isLt).symm⟩

/-- The array of results after the second kernel. -/
theorem arr1_3 : (dat1 (V6 m ρ) c).arrAt 3 cfg1.N = outArr (imgK m c) := by
  refine (dat1 (V6 m ρ) c).arrAt_eq_of_covers 3 _ covers1_3 fun t hf y => ?_
  blk_simp
  rw [after1_3]
  idx_vars y
  obtain rfl : y0 = 0 := Subsingleton.elim _ _
  have e : ((win1_3.blk t).view.emb (ix3 0 y1 y2) : S128x512x1536.Idx) = ix3 (batch1 t) ⟨32 * stripe1 t + y1, by omega⟩ y2 := by
    blk_ext [(index1 t).2.2.2, batch1, stripe1]
  have hy : y2 = ⟨3 * (⟨y2 / 3, by omega⟩ : Fin 512).val + (⟨y2 % 3, by omega⟩ : Fin 3).val, by simp only; omega⟩ :=
    Fin.ext (by simp only; omega)
  refine (congrArg (fun q => out1_3 (F := Ideal) (grid1.coords t) (iblk1 (V6 m ρ) c 0 t) (iblk1 (V6 m ρ) c 1 t)
    (iblk1 (V6 m ρ) c 2 t) (ix3 0 y1 q)) hy).trans ?_
  refine (out1_3_apply (grid1.coords t) _ _ _ (levels1 m c t) _ _ (block1_gray m ρ c t) (block1_above m ρ c t)
    (block1_below m ρ c t) y1 _ _).trans ?_
  rw [stripe_out]
  exact (congrArg (outArr (imgK m c)) e).symm

/-- The kernel's result at an index: the equalised grey level of the pixel, in every channel. -/
theorem result_apply (b : Fin 128) (y x : Fin 512) (d : Fin 3) :
    (W8 m ρ c (Proc.devRef .tc main_v24) : S128x512x512x3.Idx → EReal) (ix4 b y x d) = ((out (imgK m c) b y x : ℝ) : EReal) := by
  have h : W7 m ρ c (Proc.devRef .tc main_v23) = outArr (imgK m c) := (W7_arr m ρ c 3).trans (arr1_3 m ρ c)
  after_reads_at
  rw [h]
  have e : (⟨(x.val * 3 + d.val) / 3, by omega⟩ : Fin 512) = x := Fin.ext (by simp only; omega)
  exact congrArg (fun q => ((out (imgK m c) b y q : ℝ) : EReal)) e

end Cert.KernelIdeal.Hand

end
-- ==== Proof.KerRun.lean ====
module

public import proofs.«01_k».proof.Proof.KerOut

@[expose] public section

/-! # The kernel's run

    Every execution of the kernel ends with its result array at the contents that follow the last host operation. -/

set_option maxRecDepth 16384

noncomputable section

namespace Cert.KernelIdeal.Hand

open Cert.KernelIdeal Cert.KernelIdeal.Gen Cert.Clahe Idealize.ShloMosaic Idealize.ShloMosaic.TcCoe
open Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- The kernel runs to its end, its result array is what the last host operation leaves, and its argument is as at the
    start. -/
theorem run_result : θ_run defs (onTc (τ := τ) (main (F := Ideal))) ⟨m, fun _ => 0, ρ⟩ (fun r => ∀ c : Dev nD,
      r.2.mem ((c.tc : Thread nD τ).loc main_v24) = W8 m ρ c (Proc.devRef .tc main_v24)
      ∧ r.2.mem ((c.tc : Thread nD τ).loc main_arg0) = m ((c.tc : Thread nD τ).loc main_arg0)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => ⟨h c _ (mem_uc main_v24 (by decide)),
      (h c _ (mem_uc main_arg0 (by decide))).trans (W8_main_arg0 m ρ c)⟩)

end Cert.KernelIdeal.Hand

end
-- ==== Proof.RefGather.lean ====
module

public import proofs.«01_k».proof.Proof.Words

@[expose] public section

/-! # A gather of single entries from a rank-four array

    Each entry of the result reads the operand at the four index words that the index array holds for it. -/

noncomputable section

namespace Cert.ReferenceIdeal.Hand

open Cert.Clahe Idealize.ShloMosaic

variable {A B C D n0 n1 n2 : ℕ}

/-- Where the index array is read: at the result's coordinates, with the component last. -/
theorem gather_siIdx (d : GatherDims ⟨4, ![A, B, C, D]⟩ ⟨4, ![n0, n1, n2, 4]⟩ ⟨3, ![n0, n1, n2]⟩) (hod : d.offsetDims = [])
    (hiv : d.indexVectorDim = 3) (p : Fin n0) (q : Fin n1) (r : Fin n2) (c : Fin d.startIndexMap.length) (k : Fin 4)
    (hc : c.val = k.val) : d.siIdx (ix3 p q r) c = ix4 p q r k := by
  obtain ⟨od, cd, ob, sb, sm, iv, ss, wf⟩ := d
  dsimp only at hod hiv
  subst hod hiv
  funext b
  apply Fin.ext
  match b with
  | ⟨0, _⟩ => rfl
  | ⟨1, _⟩ => rfl
  | ⟨2, _⟩ => rfl
  | ⟨3, _⟩ => exact hc

/-- An entry of the result is the operand's entry at the numbers that its four index words hold. -/
theorem gather_apply {α : Type} (d : GatherDims ⟨4, ![A, B, C, D]⟩ ⟨4, ![n0, n1, n2, 4]⟩ ⟨3, ![n0, n1, n2]⟩) (hod : d.offsetDims = [])
    (hcd : d.collapsedSliceDims = [0, 1, 2, 3]) (hob : d.operandBatchingDims = []) (hsm : d.startIndexMap = [0, 1, 2, 3])
    (hiv : d.indexVectorDim = 3) (x : (⟨4, ![A, B, C, D]⟩ : Shape).Idx → α) (idx : IVec ⟨4, ![n0, n1, n2, 4]⟩ 32)
    (p : Fin n0) (q : Fin n1) (r : Fin n2) (a : Fin A) (b : Fin B) (c : Fin C) (e : Fin D)
    (ha : idx (ix4 p q r 0) = BitVec.ofNat 32 a) (hb : idx (ix4 p q r 1) = BitVec.ofNat 32 b)
    (hc : idx (ix4 p q r 2) = BitVec.ofNat 32 c) (he : idx (ix4 p q r 3) = BitVec.ofNat 32 e)
    (hA : A < 2 ^ 31) (hB : B < 2 ^ 31) (hC : C < 2 ^ 31) (hD : D < 2 ^ 31) :
    Host.gather d x idx (ix3 p q r) = x (ix4 a b c e) := by
  unfold Host.gather
  refine congrArg x (funext fun f => Fin.ext ?_)
  have all : ∀ f : Fin 4, f ∈ [0, 1, 2, 3] := by decide
  have pos : ∀ f : Fin 4, List.idxOf f [0, 1, 2, 3] = f.val := by decide
  have key : ∀ (f : Fin 4) (n : ℕ), idx (ix4 p q r f) = BitVec.ofNat 32 n → n < (⟨4, ![A, B, C, D]⟩ : Shape).size f → n < 2 ^ 31 →
      (d.operandIdx (ix3 p q r) idx f).val = n := by
    intro f n hn hlt hn31
    have hmem : f ∈ d.collapsedSliceDims := by rw [hcd]; exact all f
    have hk : f ∉ d.sKept := fun h => ((d.mem_sKept f).1 h).1 hmem
    have hm : f ∈ d.startIndexMap := by rw [hsm]; exact all f
    have hsl : d.sliceSizes f = 1 := d.slice_collapsed f hmem
    change d.start (ix3 p q r) idx f + d.batchCoord (ix3 p q r) f + d.offCoord (ix3 p q r) f = n
    rw [d.batchCoord_eq_zero _ _ (by rw [hob]; exact List.not_mem_nil), d.offCoord_eq_zero _ _ hk]
    unfold GatherDims.start
    rw [dif_pos hm, gather_siIdx d hod hiv p q r _ f, hn, toInt_nat n hn31, hsl]
    · omega
    · dsimp only
      rw [hsm]
      exact pos f
  match f with
  | ⟨0, _⟩ => exact key 0 a ha a.isLt (by omega)
  | ⟨1, _⟩ => exact key 1 b hb b.isLt (by omega)
  | ⟨2, _⟩ => exact key 2 c hc c.isLt (by omega)
  | ⟨3, _⟩ => exact key 3 e he e.isLt (by omega)

end Cert.ReferenceIdeal.Hand

end
-- ==== Proof.RefGray.lean ====
module

public import proofs.«01_k».proof.Proof.Words
public import proofs.«01_k».proof.Proof.Gen.ReferenceIdeal.Run
public import Idealize.ShloMosaic.Lib.StableHlo.ReadAt
public import Idealize.ShloMosaic.Lib.Pointwise

@[expose] public section

/-! # The reference's grey levels -/

noncomputable section

namespace Cert.ReferenceIdeal.Hand

open Cert.ReferenceIdeal Cert.ReferenceIdeal.Gen Cert.ReferenceIdeal.Value Cert.Clahe Idealize.ShloMosaic

variable (V : Valuation τ sig (Elt Ideal))

/-- The image in the reference's argument. -/
def imgR : Img := fun b y x d => (V (Proc.devRef .tc main_arg0) : S128x512x512x3.Idx → EReal) (ix4 b y x d)

/-- The word to which a small natural number, as a float, converts. -/
theorem fptosi_nat (n : ℕ) (h : n < 2 ^ 31) : Ideal.fptosi 32 ((n : ℝ) : EReal) = BitVec.ofNat 32 n := by
  rw [Ideal.fptosi, Ideal.toIntClamped_coe, if_pos (by positivity), Int.floor_natCast]
  rw [← BitVec.ofInt_natCast]
  congr 1
  norm_num
  omega

/-- The float of a channel value's word. -/
theorem sitofp_pix (X : EReal) :
    (FloatOps.sitofp .f32 (BitVec.ofInt 32 (pix X)) : Ideal .f32) = ((pix X : ℝ) : EReal) := by
  obtain ⟨h0, h1⟩ := pix_range X
  change (((BitVec.ofInt 32 (pix X)).toInt : ℝ) : EReal) = _
  rw [BitVec.toInt_ofInt, Int.bmod_eq_of_le (by norm_num; omega) (by norm_num; omega)]

/-- The channels as integers. -/
theorem chan_apply (b : Fin 128) (y x : Fin 512) (d : Fin 3) :
    (res_main_v1 (F := Ideal) V : S128x512x512x3.Idx → BitVec 32) (ix4 b y x d) = BitVec.ofInt 32 (pix (imgR V b y x d)) := by
  rw [← fptosi_clip]
  clean_types
  pointwise [res_main_v1]
  have h255 : (id (constant (F := Ideal) S_ .f32 0x437F0000#32) ix0 : EReal) = ((255 : ℝ) : EReal) := word_255
  have h0 : (id (constant (F := Ideal) S_ .f32 0x00000000#32) ix0 : EReal) = 0 := Ideal.ofBits_zero .f32
  rw [h255, h0]
  rfl

/-- The grey levels as integers. -/
theorem gray_apply (b : Fin 128) (y x : Fin 512) :
    (res_main_v21 (F := Ideal) V : S128x512x512.Idx → BitVec 32) (ix3 b y x) = BitVec.ofNat 32 (gray (imgR V) b y x) := by
  clean_types
  pointwise [res_main_v21]
  rw [chan_apply, chan_apply, chan_apply, sitofp_pix, sitofp_pix, sitofp_pix, word_255, word_w0, word_w1, word_w2,
    ← EReal.coe_mul, ← EReal.coe_mul, ← EReal.coe_mul, ← EReal.coe_add, ← EReal.coe_add, clip_round]
  exact fptosi_nat _ (lt_trans (clip255_lt _) (by norm_num))

end Cert.ReferenceIdeal.Hand

end
-- ==== Proof.RefCoords.lean ====
module

public import proofs.«01_k».proof.Proof.RefGray
public import Idealize.ShloMosaic.Lib.IdealHost

@[expose] public section

/-! # The reference's coordinates

    Each coordinate's cell, the two tiles between whose centres it lies, and its distance past the first. -/

noncomputable section

namespace Cert.ReferenceIdeal.Hand

open Cert.ReferenceIdeal Cert.ReferenceIdeal.Gen Cert.ReferenceIdeal.Value Cert.Clahe Idealize.ShloMosaic

/-- A coordinate's place among the tiles' centres. -/
theorem place_word (n : ℕ) (hn : n < 512) :
    (Ideal.div (FloatOps.sitofp .f32 (BitVec.ofNat 32 n) : Ideal .f32) (Ideal.ofBits .f32 0x42800000#32)
        - Ideal.ofBits .f32 0x3F000000#32 : EReal)
      = (((n : ℝ) * (1 / 64) - 1 / 2 : ℝ) : EReal) := by
  rw [sitofp_nat n (by omega), word_64, word_half, Ideal.div_coe (by norm_num), ← EReal.coe_mul, ← EReal.coe_sub]

/-- The word of a coordinate's cell. -/
theorem cell_word (z : ℤ) (h0 : -(2 ^ 31) ≤ z) (h1 : z < 2 ^ 31) : Ideal.fptosi 32 (((z : ℝ)) : EReal) = BitVec.ofInt 32 z := by
  rw [Ideal.fptosi, Ideal.toIntClamped_coe]
  have e : (if (0 : ℝ) ≤ (z : ℝ) then ⌊(z : ℝ)⌋ else ⌈(z : ℝ)⌉) = z := by simp
  rw [e]
  congr 1
  norm_num
  omega

/-- A tile number's word, clipped to the eight tiles. -/
theorem clip_word (z : ℤ) (h0 : -(2 ^ 31) ≤ z) (h1 : z < 2 ^ 31) :
    IntOp.minsi 7#32 (IntOp.maxsi 0#32 (BitVec.ofInt 32 z)) = BitVec.ofNat 32 (clipTile z) := by
  have t : (BitVec.ofInt 32 z).toInt = z := by
    rw [BitVec.toInt_ofInt, Int.bmod_eq_of_le (by norm_num; omega) (by norm_num; omega)]
  refine BitVec.eq_of_toInt_eq ?_
  rw [toInt_nat _ (by have := (clipTile z).isLt; omega)]
  unfold IntOp.minsi IntOp.maxsi clipTile
  have h7 : (7#32).toInt = 7 := rfl
  have hz : (0#32).toInt = 0 := rfl
  by_cases c0 : z < 0
  · have : (BitVec.ofInt 32 z).slt 0#32 = true := by rw [BitVec.slt_eq_decide, t, hz]; exact decide_eq_true c0
    rw [if_pos this]
    have : ¬ (7#32).slt (0#32) = true := by decide
    rw [if_neg this, hz]
    dsimp only
    omega
  · have : ¬ (BitVec.ofInt 32 z).slt 0#32 = true := by rw [BitVec.slt_eq_decide, t, hz]; simpa using c0
    rw [if_neg this]
    by_cases c7 : 7 < z
    · have : (7#32).slt (BitVec.ofInt 32 z) = true := by rw [BitVec.slt_eq_decide, t, h7]; exact decide_eq_true c7
      rw [if_pos this, h7]
      dsimp only
      omega
    · have : ¬ (7#32).slt (BitVec.ofInt 32 z) = true := by rw [BitVec.slt_eq_decide, t, h7]; simpa using c7
      rw [if_neg this, t]
      dsimp only
      omega

/-- A coordinate's cell is small. -/
theorem cell_range (x : Fin 512) : -1 ≤ cell x ∧ cell x ≤ 7 := by
  have := x.isLt
  unfold cell
  omega

/-- A clipped cell's word, from the place of its coordinate. -/
theorem tile_word (x : Fin 512) : IntOp.minsi 7#32 (IntOp.maxsi 0#32 (Ideal.fptosi 32 (((cell x : ℤ) : ℝ) : EReal)))
    = BitVec.ofNat 32 (clipTile (cell x)) := by
  obtain ⟨h0, h1⟩ := cell_range x
  rw [cell_word _ (by omega) (by omega), clip_word _ (by omega) (by omega)]

/-- The word of the tile after a cell's. -/
theorem next_word (x : Fin 512) :
    IntOp.minsi 7#32 (IntOp.maxsi 0#32 (IntOp.addi (Ideal.fptosi 32 (((cell x : ℤ) : ℝ) : EReal)) 1#32))
      = BitVec.ofNat 32 (clipTile (cell x + 1)) := by
  obtain ⟨h0, h1⟩ := cell_range x
  rw [cell_word _ (by omega) (by omega)]
  have e : IntOp.addi (BitVec.ofInt 32 (cell x)) 1#32 = BitVec.ofInt 32 (cell x + 1) := by rw [BitVec.ofInt_add]; rfl
  rw [e, clip_word _ (by omega) (by omega)]

variable (V : Valuation τ sig (Elt Ideal))

/-- A column's place among the tiles' centres. -/
theorem colPlace_apply (x : Fin 512) :
    (res_main_v63 (F := Ideal) V : S512.Idx → EReal) (ix1 x) = ((((x : ℕ) : ℝ) * (1 / 64) - 1 / 2 : ℝ) : EReal) := by
  clean_types
  pointwise [res_main_v63]
  exact place_word x x.isLt

/-- A row's place among the tiles' centres. -/
theorem rowPlace_apply (y : Fin 512) :
    (res_main_v76 (F := Ideal) V : S512.Idx → EReal) (ix1 y) = ((((y : ℕ) : ℝ) * (1 / 64) - 1 / 2 : ℝ) : EReal) := by
  clean_types
  pointwise [res_main_v76]
  exact place_word y y.isLt

/-- A column's cell. -/
theorem colCell_apply (x : Fin 512) :
    (res_main_v64 (F := Ideal) V : S512.Idx → EReal) (ix1 x) = (((cell x : ℤ) : ℝ) : EReal) := by
  clean_types
  pointwise [res_main_v64]
  rw [colPlace_apply]
  exact congrArg (fun z : ℤ => ((z : ℝ) : EReal)) (floor_cell x)

/-- A row's cell. -/
theorem rowCell_apply (y : Fin 512) :
    (res_main_v77 (F := Ideal) V : S512.Idx → EReal) (ix1 y) = (((cell y : ℤ) : ℝ) : EReal) := by
  clean_types
  pointwise [res_main_v77]
  rw [rowPlace_apply]
  exact congrArg (fun z : ℤ => ((z : ℝ) : EReal)) (floor_cell y)

/-- The first of a row's two tiles. -/
theorem above_apply (y : Fin 512) :
    (res_main_v87 (F := Ideal) V : S1x512x1.Idx → BitVec 32) (ix3 0 y 0) = BitVec.ofNat 32 (clipTile (cell y)) := by
  clean_types
  pointwise [res_main_v87]
  rw [rowCell_apply]
  exact tile_word y

/-- The second of a row's two tiles. -/
theorem below_apply (y : Fin 512) :
    (res_main_v88 (F := Ideal) V : S1x512x1.Idx → BitVec 32) (ix3 0 y 0) = BitVec.ofNat 32 (clipTile (cell y + 1)) := by
  clean_types
  pointwise [res_main_v88]
  rw [rowCell_apply]
  exact next_word y

/-- The first of a column's two tiles. -/
theorem left_apply (x : Fin 512) :
    (res_main_v89 (F := Ideal) V : S1x1x512.Idx → BitVec 32) (ix3 0 0 x) = BitVec.ofNat 32 (clipTile (cell x)) := by
  clean_types
  pointwise [res_main_v89]
  rw [colCell_apply]
  exact tile_word x

/-- The second of a column's two tiles. -/
theorem right_apply (x : Fin 512) :
    (res_main_v90 (F := Ideal) V : S1x1x512.Idx → BitVec 32) (ix3 0 0 x) = BitVec.ofNat 32 (clipTile (cell x + 1)) := by
  clean_types
  pointwise [res_main_v90]
  rw [colCell_apply]
  exact next_word x

/-- How far a coordinate lies past its cell's centre. -/
theorem past_word (n : ℕ) :
    (((n : ℝ) * (1 / 64) - 1 / 2 : ℝ) : EReal) - (((cell n : ℤ) : ℝ) : EReal) = ((frac n : ℝ) : EReal) := by
  rw [← EReal.coe_sub, ← frac_eq, floor_cell]

/-- A column's distance past its cell's centre. -/
theorem colFrac_apply (x : Fin 512) :
    (res_main_v207 (F := Ideal) V : S1x1x512.Idx → EReal) (ix3 0 0 x) = ((frac x : ℝ) : EReal) := by
  clean_types
  pointwise [res_main_v207]
  rw [colPlace_apply, colCell_apply]
  exact past_word x

/-- A row's distance past its cell's centre. -/
theorem rowFrac_apply (y : Fin 512) :
    (res_main_v208 (F := Ideal) V : S1x512x1.Idx → EReal) (ix3 0 y 0) = ((frac y : ℝ) : EReal) := by
  clean_types
  pointwise [res_main_v208]
  rw [rowPlace_apply, rowCell_apply]
  exact past_word y

end Cert.ReferenceIdeal.Hand

end
-- ==== Proof.RefCorner.lean ====
module

public import proofs.«01_k».proof.Proof.RefGather
public import proofs.«01_k».proof.Proof.RefCoords
public import Idealize.ShloMosaic.Lib.Routing.OpsPair

@[expose] public section

/-! # One of the four tables around each pixel

    The reference looks a pixel's grey level up in the table of a tile, by an index of four words: image, tile row, tile
    column and grey level. -/

noncomputable section

namespace Cert.ReferenceIdeal.Hand

open Cert.ReferenceIdeal Cert.ReferenceIdeal.Gen Cert.ReferenceIdeal.Value Cert.Clahe Idealize.ShloMosaic

section Index

variable (bw : IVec S128x1x1 32) (yw : IVec S1x512x1 32) (xw : IVec S1x1x512 32) (gw : IVec S128x512x512 32)

/-- The image words of every pixel, with negative ones wrapped. -/
def imageWords : IVec S128x512x512x1 32 :=
  broadcastInDim S128x512x512x1 ![0, 1, 2] bcast_S128x512x512_S128x512x512x1_0_1_2
    (broadcastInDim S128x512x512 ![0, 1, 2] bcast_S128x1x1_S128x512x512_0_1_2
      (select (cmpi .slt bw (broadcastInDim S128x1x1 ![] bcast_S_S128x1x1 (constantI S_ 32 0#32)))
        (addi bw (broadcastInDim S128x1x1 ![] bcast_S_S128x1x1 (constantI S_ 32 128#32))) bw))

/-- The tile row words of every pixel, with negative ones wrapped. -/
def rowWords : IVec S128x512x512x1 32 :=
  broadcastInDim S128x512x512x1 ![0, 1, 2] bcast_S128x512x512_S128x512x512x1_0_1_2
    (broadcastInDim S128x512x512 ![0, 1, 2] bcast_S1x512x1_S128x512x512_0_1_2
      (select (cmpi .slt yw (broadcastInDim S1x512x1 ![] bcast_S_S1x512x1 (constantI S_ 32 0#32)))
        (addi yw (broadcastInDim S1x512x1 ![] bcast_S_S1x512x1 (constantI S_ 32 8#32))) yw))

/-- The tile column words of every pixel, with negative ones wrapped. -/
def colWords : IVec S128x512x512x1 32 :=
  broadcastInDim S128x512x512x1 ![0, 1, 2] bcast_S128x512x512_S128x512x512x1_0_1_2
    (broadcastInDim S128x512x512 ![0, 1, 2] bcast_S1x1x512_S128x512x512_0_1_2
      (select (cmpi .slt xw (broadcastInDim S1x1x512 ![] bcast_S_S1x1x512 (constantI S_ 32 0#32)))
        (addi xw (broadcastInDim S1x1x512 ![] bcast_S_S1x1x512 (constantI S_ 32 8#32))) xw))

/-- The grey level words of every pixel, with negative ones wrapped. -/
def greyWords : IVec S128x512x512x1 32 :=
  broadcastInDim S128x512x512x1 ![0, 1, 2] bcast_S128x512x512_S128x512x512x1_0_1_2
    (select (cmpi .slt gw (broadcastInDim S128x512x512 ![] bcast_S_S128x512x512 (constantI S_ 32 0#32)))
      (addi gw (broadcastInDim S128x512x512 ![] bcast_S_S128x512x512 (constantI S_ 32 256#32))) gw)

/-- The four words of every pixel. -/
def cornerIdx : IVec S128x512x512x4 32 :=
  concatenate S128x512x512x4 3 [⟨S128x512x512x1, imageWords bw⟩, ⟨S128x512x512x1, rowWords yw⟩, ⟨S128x512x512x1, colWords xw⟩,
    ⟨S128x512x512x1, greyWords gw⟩]
    concatenates_S128x512x512x1_S128x512x512x1_S128x512x512x1_S128x512x512x1_S128x512x512x4_d3

variable (b : Fin 128) (y x : Fin 512)

/-- A pixel's image word is the number it holds. -/
theorem imageWords_apply (n : ℕ) (hn : n < 2 ^ 31) (h : bw (ix3 b 0 0) = BitVec.ofNat 32 n) :
    imageWords bw (ix4 b y x 0) = BitVec.ofNat 32 n := by
  clean_types
  pointwise [imageWords]
  rw [h]
  exact Routing.wrap_of_lt _ _ (by rw [BitVec.toNat_ofNat]; omega)

/-- A pixel's tile row word is the number it holds. -/
theorem rowWords_apply (n : ℕ) (hn : n < 2 ^ 31) (h : yw (ix3 0 y 0) = BitVec.ofNat 32 n) :
    rowWords yw (ix4 b y x 0) = BitVec.ofNat 32 n := by
  clean_types
  pointwise [rowWords]
  rw [h]
  exact Routing.wrap_of_lt _ _ (by rw [BitVec.toNat_ofNat]; omega)

/-- A pixel's tile column word is the number it holds. -/
theorem colWords_apply (n : ℕ) (hn : n < 2 ^ 31) (h : xw (ix3 0 0 x) = BitVec.ofNat 32 n) :
    colWords xw (ix4 b y x 0) = BitVec.ofNat 32 n := by
  clean_types
  pointwise [colWords]
  rw [h]
  exact Routing.wrap_of_lt _ _ (by rw [BitVec.toNat_ofNat]; omega)

/-- A pixel's grey level word is the number it holds. -/
theorem greyWords_apply (n : ℕ) (hn : n < 2 ^ 31) (h : gw (ix3 b y x) = BitVec.ofNat 32 n) :
    greyWords gw (ix4 b y x 0) = BitVec.ofNat 32 n := by
  clean_types
  pointwise [greyWords]
  rw [h]
  exact Routing.wrap_of_lt _ _ (by rw [BitVec.toNat_ofNat]; omega)

end Index

/-- A concatenation of four unit slabs along the last axis, read at component `k`. -/
theorem concat4_apply {n0 n1 n2 : ℕ} (W : Fin 4 → IVec ⟨4, ![n0, n1, n2, 1]⟩ 32)
    (h : Shape.Concatenates [⟨4, ![n0, n1, n2, 1]⟩, ⟨4, ![n0, n1, n2, 1]⟩, ⟨4, ![n0, n1, n2, 1]⟩, ⟨4, ![n0, n1, n2, 1]⟩]
      ⟨4, ![n0, n1, n2, 4]⟩ 3) (p : Fin n0) (q : Fin n1) (r : Fin n2) (k : Fin 4) :
    concatenate ⟨4, ![n0, n1, n2, 4]⟩ 3 [⟨⟨4, ![n0, n1, n2, 1]⟩, W 0⟩, ⟨⟨4, ![n0, n1, n2, 1]⟩, W 1⟩, ⟨⟨4, ![n0, n1, n2, 1]⟩, W 2⟩,
      ⟨⟨4, ![n0, n1, n2, 1]⟩, W 3⟩] h (ix4 p q r k) = W k (ix4 p q r 0) := by
  refine concatenate_ofFn_apply (t := ⟨4, ![n0, n1, n2, 4]⟩) (3 : Fin 4) W h rfl 1 rfl (ix4 p q r k) k ?_ (ix4 p q r 0) ?_ ?_
  · exact Nat.div_one _
  · exact (Nat.mod_one _).symm
  · intro b hb
    match b with
    | ⟨0, _⟩ => rfl
    | ⟨1, _⟩ => rfl
    | ⟨2, _⟩ => rfl
    | ⟨3, _⟩ => exact absurd rfl hb

/-- The table entries that every pixel's four words name. -/
def cornerArr (L : FVec Ideal S128x8x8x256 .f32) (idx : IVec S128x512x512x4 32) : FVec Ideal S128x512x512 .f32 :=
  Host.gather gather_S128x8x8x256_S128x512x512x4_S128x512x512_n_0123_n_n_0123_3_1111 L idx

/-- A pixel's table entry. -/
theorem corner_apply (L : FVec Ideal S128x8x8x256 .f32) (bw : IVec S128x1x1 32) (yw : IVec S1x512x1 32) (xw : IVec S1x1x512 32)
    (gw : IVec S128x512x512 32) (b : Fin 128) (y x : Fin 512) (ty tx : Fin 8) (v : Fin 256)
    (hb : bw (ix3 b 0 0) = BitVec.ofNat 32 b) (hy : yw (ix3 0 y 0) = BitVec.ofNat 32 ty)
    (hx : xw (ix3 0 0 x) = BitVec.ofNat 32 tx) (hg : gw (ix3 b y x) = BitVec.ofNat 32 v) :
    cornerArr L (cornerIdx bw yw xw gw) (ix3 b y x) = L (ix4 b ty tx v) := by
  have at4 : ∀ k : Fin 4, cornerIdx bw yw xw gw (ix4 b y x k)
      = (![imageWords bw, rowWords yw, colWords xw, greyWords gw] : Fin 4 → IVec S128x512x512x1 32) k (ix4 b y x 0) :=
    fun k => concat4_apply ![imageWords bw, rowWords yw, colWords xw, greyWords gw] _ b y x k
  refine gather_apply gather_S128x8x8x256_S128x512x512x4_S128x512x512_n_0123_n_n_0123_3_1111 rfl rfl rfl rfl rfl L
    (cornerIdx bw yw xw gw) b y x b ty tx v ?_ ?_ ?_ ?_ (by norm_num) (by norm_num) (by norm_num) (by norm_num)
  · exact (at4 0).trans (imageWords_apply bw b y x b (by omega) hb)
  · exact (at4 1).trans (rowWords_apply yw b y x ty (by omega) hy)
  · exact (at4 2).trans (colWords_apply xw b y x tx (by omega) hx)
  · exact (at4 3).trans (greyWords_apply gw b y x v (by omega) hg)

end Cert.ReferenceIdeal.Hand

end
-- ==== Proof.RefHist.lean ====
module

public import proofs.«01_k».proof.Proof.RefGray
public import Idealize.ShloMosaic.Lib.Routing.OpsPair

@[expose] public section

/-! # The reference's histograms

    The reference adds one, for every pixel, to the bin that the pixel's tile and grey level name, in one long row of
    bins. A bin therefore ends at the number of pixels that name it, which are the pixels of its tile with its level. -/

noncomputable section

namespace Cert.ReferenceIdeal.Hand

open Cert.ReferenceIdeal Cert.ReferenceIdeal.Gen Cert.ReferenceIdeal.Value Cert.Clahe Idealize.ShloMosaic

variable (V : Valuation τ sig (Elt Ideal))

/-- The bin that pixel `a` of tile `T` names, in the row of all tiles' bins. -/
def binOf (I : Img) (T : Fin 8192) (a : Fin 4096) : ℕ :=
  256 * T + tile I ⟨T / 64, by omega⟩ ⟨T / 8 % 8, by omega⟩ ⟨T % 8, by omega⟩ ⟨a / 64, by omega⟩ ⟨a % 64, by omega⟩

/-- A tile's grey levels are below 256. -/
theorem tile_lt (I : Img) (b : Fin 128) (ty tx : Fin 8) (r q : Fin 64) : tile I b ty tx r q < 256 := gray_lt _ _ _ _

/-- A pixel's bin lies in the flat array of bins. -/
theorem binOf_lt (I : Img) (T : Fin 8192) (a : Fin 4096) : binOf I T a < 2097152 := by
  have := tile_lt I ⟨T / 64, by omega⟩ ⟨T / 8 % 8, by omega⟩ ⟨T % 8, by omega⟩ ⟨a / 64, by omega⟩ ⟨a % 64, by omega⟩
  unfold binOf
  omega

/-- The words of the bins. -/
theorem bin_apply (n : Fin 33554432) :
    (res_main_v32 (F := Ideal) V : S33554432.Idx → BitVec 32) (ix1 n)
      = BitVec.ofNat 32 (binOf (imgR V) ⟨n / 4096, by omega⟩ ⟨n % 4096, by omega⟩) := by
  clean_types
  pointwise [res_main_v32]
  rw [gray_apply]
  have e : gray (imgR V) ⟨n / 4096 / 64, by omega⟩ ⟨n / 4096 / 8 % 8 * 64 + n % 4096 / 64, by omega⟩
        ⟨n / 4096 % 8 * 64 + n % 4096 % 64, by omega⟩
      = tile (imgR V) ⟨n / 4096 / 64, by omega⟩ ⟨n / 4096 / 8 % 8, by omega⟩ ⟨n / 4096 % 8, by omega⟩
        ⟨n % 4096 / 64, by omega⟩ ⟨n % 4096 % 64, by omega⟩ := by
    unfold tile
    congr 1 <;> exact Fin.ext (by simp only; omega)
  rw [e]
  unfold binOf
  change BitVec.ofNat 32 (n / 4096) * 256#32 + BitVec.ofNat 32 _ = _
  rw [← BitVec.ofNat_mul, ← BitVec.ofNat_add, Nat.mul_comm]

/-- The index words that the scatter takes. -/
def binWords : IVec S33554432x1 32 :=
  broadcastInDim S33554432x1 ![0] bcast_S33554432_S33554432x1_0
    (select (cmpi .slt (res_main_v32 (F := Ideal) V) (broadcastInDim S33554432 ![] bcast_S_S33554432 (constantI S_ 32 0#32)))
      (addi (res_main_v32 (F := Ideal) V) (broadcastInDim S33554432 ![] bcast_S_S33554432 (constantI S_ 32 2097152#32)))
      (res_main_v32 (F := Ideal) V))

/-- The word of each update names its bin. -/
theorem binWords_apply (n : Fin 33554432) :
    binWords V (ix2 n 0) = BitVec.ofNat 32 (binOf (imgR V) ⟨n / 4096, by omega⟩ ⟨n % 4096, by omega⟩) := by
  have h := binOf_lt (imgR V) ⟨n / 4096, by omega⟩ ⟨n % 4096, by omega⟩
  unfold binWords
  pointwise
  rw [bin_apply]
  exact Routing.wrap_of_lt _ _ (by rw [BitVec.toNat_ofNat]; omega)

/-- A pixel's one lands in the bin whose number its index word is. -/
theorem lands (idx : IVec S33554432x1 32) (n : Fin 33554432) (x : Fin 2097152) :
    scatter_S2097152_S33554432x1_S33554432_n_0_0_1.resultIdx? (ix1 n) idx = some (ix1 x) ↔ (idx (ix2 n 0)).toInt = (x : ℤ) := by
  have hw : scatter_S2097152_S33554432x1_S33554432_n_0_0_1.window (ix1 n) 0 = 0 := by
    unfold ScatterDims.window
    exact dif_neg (by decide)
  have hi : ∀ h, scatter_S2097152_S33554432x1_S33554432_n_0_0_1.siIdx (ix1 n) h = ix2 n 0 := by
    intro h
    funext a
    match a with
    | ⟨0, _⟩ => rfl
    | ⟨1, _⟩ => exact Subsingleton.elim (α := Fin 1) _ _
  have hs : scatter_S2097152_S33554432x1_S33554432_n_0_0_1.start (ix1 n) idx 0 = (idx (ix2 n 0)).toInt := by
    unfold ScatterDims.start
    rw [dif_pos (by decide), hi]
  refine (Routing.resultIdx?_ix1 _ _ _ x).trans ?_
  rw [hs, hw]
  omega

/-- Adding ones to an element that starts at zero counts the updates that land there. -/
theorem scatter_count {s si u : Shape} (d : ScatterDims s si u) (x : Vec Ideal s .f32) (idx : IVec si 32)
    (upd : Vec Ideal u .f32) (i : s.Idx) (hx : x i = (0 : EReal)) (hu : ∀ j, upd j = (1 : EReal)) :
    Host.scatterAdd (F := Ideal) (φ := .f32) d x idx upd i
      = (((Finset.univ.filter fun j => d.resultIdx? j idx = some i).card : ℝ) : EReal) := by
  change (x i : EReal) + ∑ j ∈ Finset.univ.filter (fun j => d.resultIdx? j idx = some i), (upd j : EReal) = _
  have h1 : (1 : EReal) = ((1 : ℝ) : EReal) := rfl
  simp only [hx, hu, h1]
  rw [coe_sum, zero_add, Finset.sum_const, nsmul_eq_mul, mul_one]

/-- The pixels of all tiles, counted by the bin that each names: those that name bin `256 T + k` are the pixels of tile
    `T` of level `k`. -/
theorem count_bins {α : Type} [Fintype α] (M : ℕ) (e : α ≃ Fin M) (hM : M = 33554432) (I : Img) (b : Fin 128) (ty tx : Fin 8)
    (k : Fin 256) (P : α → Prop) [DecidablePred P]
    (hP : ∀ j, P j ↔ binOf I ⟨(e j).val / 4096, by have := (e j).isLt; omega⟩ ⟨(e j).val % 4096, by omega⟩
      = 256 * (64 * b + 8 * ty + tx) + k) :
    (Finset.univ.filter P).card = hist (tile I b ty tx) k := by
  have hT : ∀ (T : Fin 8192) (a : Fin 4096), binOf I T a = 256 * (64 * b + 8 * ty + tx) + k
      ↔ (T : ℕ) = 64 * b + 8 * ty + tx ∧ tile I b ty tx ⟨a / 64, by omega⟩ ⟨a % 64, by omega⟩ = k := by
    intro T a
    have h := tile_lt I ⟨T / 64, by omega⟩ ⟨T / 8 % 8, by omega⟩ ⟨T % 8, by omega⟩ ⟨a / 64, by omega⟩ ⟨a % 64, by omega⟩
    by_cases hT : (T : ℕ) = 64 * b + 8 * ty + tx
    · have e1 : (⟨T / 64, by omega⟩ : Fin 128) = b := Fin.ext (by simp only; omega)
      have e2 : (⟨T / 8 % 8, by omega⟩ : Fin 8) = ty := Fin.ext (by simp only; omega)
      have e3 : (⟨T % 8, by omega⟩ : Fin 8) = tx := Fin.ext (by simp only; omega)
      unfold binOf
      rw [e1, e2, e3]
      omega
    · unfold binOf
      omega
  unfold hist
  refine Finset.card_bij' (fun j _ => (⟨(e j).val % 4096 / 64, by omega⟩, ⟨(e j).val % 4096 % 64, by omega⟩))
    (fun p _ => e.symm ⟨4096 * (64 * b + 8 * ty + tx) + (64 * p.1 + p.2), by omega⟩) ?_ ?_ ?_ ?_
  · intro j hj
    rw [Finset.mem_filter] at hj ⊢
    exact ⟨Finset.mem_univ _, ((hT _ _).mp ((hP j).mp hj.2)).2⟩
  · intro p hp
    rw [Finset.mem_filter] at hp ⊢
    refine ⟨Finset.mem_univ _, (hP _).mpr ((hT _ _).mpr ?_)⟩
    simp only [Equiv.apply_symm_apply]
    refine ⟨by omega, ?_⟩
    rw [← hp.2]
    congr 1 <;> exact Fin.ext (by simp only; omega)
  · intro j hj
    rw [Finset.mem_filter] at hj
    have h := ((hT _ _).mp ((hP j).mp hj.2)).1
    rw [Equiv.symm_apply_eq]
    exact Fin.ext (by simp only at h ⊢; omega)
  · intro p hp
    simp only [Equiv.apply_symm_apply]
    exact Prod.ext (Fin.ext (by simp only; omega)) (Fin.ext (by simp only; omega))

/-- A vector's indices are its positions. -/
def positions (M : ℕ) : (⟨1, ![M]⟩ : Shape).Idx ≃ Fin M where
  toFun j := j 0
  invFun n := ix1 n
  left_inv j := by
    funext a
    match a with
    | ⟨0, _⟩ => rfl
  right_inv _ := rfl

/-- Each bin of the row counts the pixels of its tile that have its grey level. -/
theorem hist_apply (b : Fin 128) (ty tx : Fin 8) (k : Fin 256) :
    (res_main_v41 (F := Ideal) V : S128x8x8x256.Idx → EReal) (ix4 b ty tx k) = ((hist (tile (imgR V) b ty tx) k : ℝ) : EReal) := by
  clean_types
  pointwise [res_main_v41]
  refine (scatter_count _ _ (binWords V) _ _ (Ideal.ofBits_zero .f32) fun j => word_1).trans ?_
  rw [count_bins 33554432 (positions 33554432) rfl (imgR V) b ty tx k]
  intro j
  obtain ⟨n, rfl⟩ := (positions 33554432).symm.surjective j
  refine (lands _ n _).trans ?_
  rw [binWords_apply, toInt_nat _ (by have := binOf_lt (imgR V) ⟨n / 4096, by omega⟩ ⟨n % 4096, by omega⟩; omega)]
  change ((binOf (imgR V) ⟨n / 4096, by omega⟩ ⟨n % 4096, by omega⟩ : ℕ) : ℤ) = ((b * 16384 + ty * 2048 + tx * 256 + k : ℕ) : ℤ)
    ↔ binOf (imgR V) ⟨n / 4096, by omega⟩ ⟨n % 4096, by omega⟩ = 256 * (64 * b + 8 * ty + tx) + k
  omega

end Cert.ReferenceIdeal.Hand

end
-- ==== Proof.RunSum.lean ====
module

public import Idealize.ShloMosaic.Lib.Pointwise
public import Idealize.ShloMosaic.Lib.IdealHost

@[expose] public section

/-! # A running sum along the last of four axes

    A running sum is printed as a sum over a window of the whole axis, padded low by one less than its length. -/

noncomputable section

namespace Cert.ReferenceIdeal.Hand

open Idealize.ShloMosaic

/-- Folding addition over a list of all positions is the sum. -/
theorem foldl_add {N : ℕ} (g : Fin N → EReal) (z : EReal) :
    (List.finRange N).foldl (fun r n => r + g n) z = z + ∑ n : Fin N, g n := by
  have e : ∀ (l : List (Fin N)) (z : EReal), l.foldl (fun r n => r + g n) z = z + (l.map g).sum := by
    intro l
    induction l with
    | nil => intro z; simp
    | cons a l ih => intro z; rw [List.foldl_cons, ih, List.map_cons, List.sum_cons, add_assoc]
  rw [e, ← List.sum_ofFn, List.ofFn_eq_map]

/-- A window that ends at `v` sums the entries up to and including `v`. -/
theorem sum_upto {M : ℕ} (f : ℕ → EReal) (v : Fin (M + 1)) :
    (∑ w : Fin (M + 1), if M ≤ (v : ℕ) + w then f ((v : ℕ) + w - M) else 0) = ∑ k : Fin (M + 1), if k ≤ v then f k else 0 := by
  rw [← Finset.sum_filter, ← Finset.sum_filter]
  have hv := v.isLt
  refine Finset.sum_bij' (fun w _ => ⟨(v : ℕ) + w - M, by omega⟩) (fun k hk => ⟨M + k - v, ?_⟩) ?_ ?_ ?_ ?_ ?_
  · have := (Finset.mem_filter.1 hk).2
    rw [Fin.le_def] at this
    omega
  · intro w hw
    have := (Finset.mem_filter.1 hw).2
    refine Finset.mem_filter.2 ⟨Finset.mem_univ _, ?_⟩
    rw [Fin.le_def]
    dsimp only
    omega
  · intro k hk
    refine Finset.mem_filter.2 ⟨Finset.mem_univ _, ?_⟩
    dsimp only
    omega
  · intro w hw
    have := (Finset.mem_filter.1 hw).2
    apply Fin.ext
    dsimp only
    omega
  · intro k hk
    have := (Finset.mem_filter.1 hk).2
    rw [Fin.le_def] at this
    apply Fin.ext
    dsimp only
    omega
  · intro w hw
    rfl

variable {A B C K M : ℕ}

/-- The positions of a window that is one wide along the first three axes. -/
def windowEquiv : Fin K ≃ (⟨4, ![1, 1, 1, K]⟩ : Shape).Idx where
  toFun k := ix4 0 0 0 k
  invFun i := i 3
  left_inv _ := rfl
  right_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- What one position of a window adds to the entry at `j`: the operand's entry there, or zero in the padding. -/
def windowTerm {s t : Shape} (window strides lo hi : Fin s.rank → ℕ) (x : s.Idx → EReal) (h : s.ReduceWindows window strides lo hi t)
    (j : t.Idx) (i : (⟨s.rank, window⟩ : Shape).Idx) : EReal :=
  let p : Fin s.rank → ℕ := fun a => (j (a.cast h.1.symm)).val * strides a + (i a).val
  if hin : ∀ a, lo a ≤ p a ∧ p a - lo a < s.size a then x (fun a => ⟨p a - lo a, (hin a).2⟩) else 0

/-- A windowed sum from zero is the sum of its positions' terms. -/
theorem reduceWindow_sum {s t u : Shape} (window strides lo hi : Fin s.rank → ℕ) (x : s.Idx → EReal) (init : u.Idx → EReal)
    (h : s.ReduceWindows window strides lo hi t) (hu : 0 < u.numel) (hinit : init (Shape.Idx.first hu) = 0) (j : t.Idx) :
    Host.reduceWindow (· + ·) window strides lo hi x init h hu j = ∑ i, windowTerm window strides lo hi x h j i := by
  unfold Host.reduceWindow
  refine (foldl_add _ _).trans ?_
  rw [hinit, zero_add]
  refine (Finset.sum_congr rfl fun n _ => ?_).trans
    (Equiv.sum_comp (⟨s.rank, window⟩ : Shape).rowMajor.symm (windowTerm window strides lo hi x h j))
  unfold windowTerm
  congr

/-- The windowed sum at an entry is the sum of the entries up to it along the last axis. -/
theorem runSum_apply (hM : M + 1 = K) {u : Shape} (x : FVec Ideal ⟨4, ![A, B, C, K]⟩ .f32) (init : FVec Ideal u .f32)
    (h : (⟨4, ![A, B, C, K]⟩ : Shape).ReduceWindows (![1, 1, 1, K] : Fin 4 → ℕ) ![1, 1, 1, 1] ![0, 0, 0, M] ![0, 0, 0, 0] ⟨4, ![A, B, C, K]⟩)
    (hu : 0 < u.numel) (hinit : (init (Shape.Idx.first hu) : EReal) = 0) (a : Fin A) (b : Fin B) (c : Fin C) (v : Fin K) :
    (Host.reduceWindowAdd ![1, 1, 1, K] ![1, 1, 1, 1] ![0, 0, 0, M] ![0, 0, 0, 0] x init h hu (ix4 a b c v) : EReal)
      = (∑ k : Fin K, if k ≤ v then x (ix4 a b c k) else 0 : EReal) := by
  subst hM
  let f : ℕ → EReal := fun n => if hn : n < M + 1 then x (ix4 a b c ⟨n, hn⟩) else 0
  have body : ∀ w : Fin (M + 1), windowTerm (![1, 1, 1, M + 1] : Fin 4 → ℕ) ![1, 1, 1, 1] ![0, 0, 0, M] ![0, 0, 0, 0] x h
      (ix4 a b c v) (windowEquiv w) = if M ≤ (v : ℕ) + w then f ((v : ℕ) + w - M) else 0 := by
    intro w
    have hv := v.isLt
    have hw := w.isLt
    unfold windowTerm
    dsimp only
    split
    · next hin =>
      have h3 := hin 3
      change M ≤ (v : ℕ) * 1 + w ∧ (v : ℕ) * 1 + w - M < M + 1 at h3
      have hlt : (v : ℕ) + w - M < M + 1 := by omega
      rw [if_pos (by omega)]
      refine Eq.trans ?_ (dif_pos hlt).symm
      congr 1
      funext d; apply Fin.ext
      match d with
      | ⟨0, _⟩ => show (a : ℕ) * 1 + 0 - 0 = a; omega
      | ⟨1, _⟩ => show (b : ℕ) * 1 + 0 - 0 = b; omega
      | ⟨2, _⟩ => show (c : ℕ) * 1 + 0 - 0 = c; omega
      | ⟨3, _⟩ => show (v : ℕ) * 1 + w - M = v + w - M; omega
    · next hin =>
      rw [if_neg fun hle => hin fun d => by
        match d with
        | ⟨0, _⟩ => show 0 ≤ (a : ℕ) * 1 + 0 ∧ (a : ℕ) * 1 + 0 - 0 < A; have := a.isLt; omega
        | ⟨1, _⟩ => show 0 ≤ (b : ℕ) * 1 + 0 ∧ (b : ℕ) * 1 + 0 - 0 < B; have := b.isLt; omega
        | ⟨2, _⟩ => show 0 ≤ (c : ℕ) * 1 + 0 ∧ (c : ℕ) * 1 + 0 - 0 < C; have := c.isLt; omega
        | ⟨3, _⟩ => show M ≤ (v : ℕ) * 1 + w ∧ (v : ℕ) * 1 + w - M < M + 1; omega]
  refine (reduceWindow_sum _ _ _ _ x (fun _ : u.Idx => init (Shape.Idx.first hu)) h hu hinit (ix4 a b c v)).trans ?_
  refine (Equiv.sum_comp windowEquiv _).symm.trans ?_
  refine (Finset.sum_congr rfl fun w _ => body w).trans ((sum_upto f v).trans ?_)
  refine Finset.sum_congr rfl fun k _ => ?_
  rw [show f k = x (ix4 a b c k) from dif_pos k.isLt]

end Cert.ReferenceIdeal.Hand

end
-- ==== Proof.RefLut.lean ====
module

public import proofs.«01_k».proof.Proof.RefHist
public import proofs.«01_k».proof.Proof.RunSum
public import Idealize.ShloMosaic.Lib.IdealHost

@[expose] public section

/-! # The reference's tables

    Each table is the rounded and clipped running sum of its tile's clipped histogram. -/

noncomputable section

namespace Cert.ReferenceIdeal.Hand

open Cert.ReferenceIdeal Cert.ReferenceIdeal.Gen Cert.ReferenceIdeal.Value Cert.Clahe Idealize.ShloMosaic

/-- A sum over the bins, read at a tile. -/
theorem binSum_apply (A : FVec Ideal S128x8x8x256 .f32) (b : Fin 128) (ty tx : Fin 8) :
    (Host.reduceAdd (F := Ideal) (φ := .f32) A (constant S_ .f32 0x00000000#32) reducesTo_S128x8x8x256_S128x8x8_d3 h_S_
      (ix3 b ty tx) : EReal) = (∑ k : Fin 256, A (ix4 b ty tx k) : EReal) := by
  refine (Ideal.hostReduceAdd_r4_a3 _ _ _ _).trans ?_
  have h0 : (constant (F := Ideal) S_ .f32 0x00000000#32 (Shape.Idx.first h_S_) : EReal) = 0 := Ideal.ofBits_zero .f32
  rw [h0, zero_add]
  rfl

section Spread

variable (H : FVec Ideal S128x8x8x256 .f32)

/-- By how much each bin exceeds 80. -/
def excessArr : FVec Ideal S128x8x8x256 .f32 :=
  maximumf (subf H (broadcastInDim S128x8x8x256 ![] bcast_S_S128x8x8x256 (constant S_ .f32 0x42A00000#32)))
    (broadcastInDim S128x8x8x256 ![] bcast_S_S128x8x8x256 (constant S_ .f32 0x00000000#32))

/-- The total excess of each tile. -/
def totalArr : FVec Ideal S128x8x8 .f32 :=
  Host.reduceAdd (excessArr H) (constant S_ .f32 0x00000000#32) reducesTo_S128x8x8x256_S128x8x8_d3 h_S_

/-- The clipped histograms with the excess `T` spread over the bins. -/
def spreadArr (T : FVec Ideal S128x8x8 .f32) : FVec Ideal S128x8x8x256 .f32 :=
  addf (minimumf H (broadcastInDim S128x8x8x256 ![] bcast_S_S128x8x8x256 (constant S_ .f32 0x42A00000#32)))
    (broadcastInDim S128x8x8x256 ![0, 1, 2, 3] bcast_S128x8x8x1_S128x8x8x256_0_1_2_3
      (Host.divf (broadcastInDim S128x8x8x1 ![0, 1, 2] bcast_S128x8x8_S128x8x8x1_0_1_2 T)
        (broadcastInDim S128x8x8x1 ![] bcast_S_S128x8x8x1 (constant S_ .f32 0x43800000#32))))

/-- The running sums, scaled, rounded and clipped. -/
def tableArr (S : FVec Ideal S128x8x8x256 .f32) : FVec Ideal S128x8x8x256 .f32 :=
  minimumf (broadcastInDim S128x8x8x256 ![] bcast_S_S128x8x8x256 (id (constant S_ .f32 0x437F0000#32)))
    (maximumf (broadcastInDim S128x8x8x256 ![] bcast_S_S128x8x8x256 (id (constant S_ .f32 0x00000000#32)))
      (Host.roundeven (mulf S (broadcastInDim S128x8x8x256 ![] bcast_S_S128x8x8x256 (constant S_ .f32 0x3D7F0000#32)))))

/-- The running sums over the bins. -/
def runArr (A : FVec Ideal S128x8x8x256 .f32) : FVec Ideal S128x8x8x256 .f32 :=
  Host.reduceWindowAdd ![1, 1, 1, 256] ![1, 1, 1, 1] ![0, 0, 0, 255] ![0, 0, 0, 0] A
    (broadcastInDim S_ ![] bcast_S_S_ (constant S_ .f32 0x00000000#32))
    reduceWindows_S128x8x8x256_S128x8x8x256_w1s1p0_0_w1s1p0_0_w1s1p0_0_w256s1p255_0 h_S_

variable (h : Fin 128 → Fin 8 → Fin 8 → Fin 256 → ℝ) (hH : ∀ b ty tx k, H (ix4 b ty tx k) = ((h b ty tx k : ℝ) : EReal))

include hH

/-- A tile's total excess. -/
theorem total_apply (b : Fin 128) (ty tx : Fin 8) : (totalArr H (ix3 b ty tx) : EReal) = ((excess (h b ty tx) : ℝ) : EReal) := by
  have e : ∀ k : Fin 256, (excessArr H (ix4 b ty tx k) : EReal) = ((max (h b ty tx k - 80) 0 : ℝ) : EReal) := by
    intro k
    clean_types
    pointwise [excessArr]
    rw [hH, word_80, ← EReal.coe_sub, ← EReal.coe_zero, coe_max]
  refine (binSum_apply (excessArr H) b ty tx).trans ?_
  simp only [e, coe_sum]
  rfl

/-- A bin of the clipped histogram, with its share of the excess. -/
theorem spread_apply (b : Fin 128) (ty tx : Fin 8) (k : Fin 256) :
    (spreadArr H (totalArr H) (ix4 b ty tx k) : EReal) = ((spread (h b ty tx) k : ℝ) : EReal) := by
  have t := total_apply H h hH b ty tx
  generalize totalArr H = T at t ⊢
  clean_types
  pointwise [spreadArr]
  rw [hH, t, word_80, word_256, coe_min, Ideal.div_coe (by norm_num), ← EReal.coe_mul, ← EReal.coe_add]
  rfl

/-- The running sum of a tile's bins. -/
theorem run_apply (b : Fin 128) (ty tx : Fin 8) (v : Fin 256) :
    (runArr (spreadArr H (totalArr H)) (ix4 b ty tx v) : EReal) = ((cdf (h b ty tx) v : ℝ) : EReal) := by
  have t := spread_apply H h hH b ty tx
  generalize spreadArr H (totalArr H) = A at t ⊢
  refine (runSum_apply (by norm_num) A _ _ _ (Ideal.ofBits_zero .f32) b ty tx v).trans ?_
  have e : ∀ k : Fin 256, (if k ≤ v then A (ix4 b ty tx k) else 0 : EReal) = ((if k ≤ v then spread (h b ty tx) k else 0 : ℝ) : EReal) := by
    intro k
    rw [t]
    split <;> simp
  refine (Finset.sum_congr rfl fun k _ => e k).trans ?_
  exact coe_sum _ _

/-- A table entry, from the histogram. -/
theorem table_apply (b : Fin 128) (ty tx : Fin 8) (v : Fin 256) :
    (tableArr (runArr (spreadArr H (totalArr H))) (ix4 b ty tx v) : EReal) = ((lutOf (h b ty tx) v : ℝ) : EReal) := by
  have t := run_apply H h hH b ty tx v
  generalize runArr (spreadArr H (totalArr H)) = A at t ⊢
  have h255 : (id (constant (F := Ideal) S_ .f32 0x437F0000#32) ix0 : EReal) = ((255 : ℝ) : EReal) := word_255
  have h0 : (id (constant (F := Ideal) S_ .f32 0x00000000#32) ix0 : EReal) = 0 := Ideal.ofBits_zero .f32
  clean_types
  pointwise [tableArr]
  rw [h255, h0, t, word_scale, ← EReal.coe_mul]
  exact clip_round _

end Spread

variable (V : Valuation τ sig (Elt Ideal))

/-- The reference's table at a tile and grey level. -/
theorem lut_apply (b : Fin 128) (ty tx : Fin 8) (v : Fin 256) :
    (res_main_v58 (F := Ideal) V : S128x8x8x256.Idx → EReal) (ix4 b ty tx v) = ((lut (imgR V) b ty tx v : ℝ) : EReal) :=
  table_apply (res_main_v41 V) (fun b ty tx k => (hist (tile (imgR V) b ty tx) k : ℝ)) (hist_apply V) b ty tx v

end Cert.ReferenceIdeal.Hand

end
-- ==== Proof.RefOut.lean ====
module

public import proofs.«01_k».proof.Proof.RefCorner
public import proofs.«01_k».proof.Proof.RefLut

@[expose] public section

/-! # The reference's result

    The four table entries around each pixel are mixed by its distances, rounded and clipped, and the grey level is copied
    to the three channels. -/

noncomputable section

namespace Cert.ReferenceIdeal.Hand

open Cert.ReferenceIdeal Cert.ReferenceIdeal.Gen Cert.ReferenceIdeal.Value Cert.Clahe Idealize.ShloMosaic

/-- Two tables' entries, mixed by the distance along the row. -/
def rowMix (P Q : FVec Ideal S128x512x512 .f32) (XA : FVec Ideal S1x1x512 .f32) : FVec Ideal S128x512x512 .f32 :=
  addf
    (mulf P (broadcastInDim S128x512x512 ![0, 1, 2] bcast_S1x1x512_S128x512x512_0_1_2
      (subf (broadcastInDim S1x1x512 ![] bcast_S_S1x1x512 (constant S_ .f32 0x3F800000#32)) XA)))
    (mulf Q (broadcastInDim S128x512x512 ![0, 1, 2] bcast_S1x1x512_S128x512x512_0_1_2 XA))

/-- Two real entries mixed along the row. -/
theorem rowMix_apply (P Q : FVec Ideal S128x512x512 .f32) (XA : FVec Ideal S1x1x512 .f32) (b : Fin 128) (y x : Fin 512) (p q a : ℝ)
    (hp : P (ix3 b y x) = (p : EReal)) (hq : Q (ix3 b y x) = (q : EReal)) (ha : XA (ix3 0 0 x) = (a : EReal)) :
    (rowMix P Q XA (ix3 b y x) : EReal) = ((p * (1 - a) + q * a : ℝ) : EReal) := by
  clean_types
  pointwise [rowMix]
  rw [hp, hq, ha, ← EReal.coe_one, ← EReal.coe_sub, ← EReal.coe_mul, ← EReal.coe_mul, ← EReal.coe_add]

/-- Two mixed rows, mixed by the distance along the column, rounded, clipped and copied to the channels. -/
def resultArr (P Q : FVec Ideal S128x512x512 .f32) (YA : FVec Ideal S1x512x1 .f32) : FVec Ideal S128x512x512x3 .f32 :=
  shapeCast _ (broadcastInDim S128x512x512x1x3 ![0, 1, 2, 3] bcast_S128x512x512x1_S128x512x512x1x3_0_1_2_3
    (broadcastInDim S128x512x512x1 ![0, 1, 2] bcast_S128x512x512_S128x512x512x1_0_1_2
      (minimumf (broadcastInDim S128x512x512 ![] bcast_S_S128x512x512 (id (constant S_ .f32 0x437F0000#32)))
        (maximumf (broadcastInDim S128x512x512 ![] bcast_S_S128x512x512 (id (constant S_ .f32 0x00000000#32)))
          (Host.roundeven (addf
            (mulf P (broadcastInDim S128x512x512 ![0, 1, 2] bcast_S1x512x1_S128x512x512_0_1_2
              (subf (broadcastInDim S1x512x1 ![] bcast_S_S1x512x1 (constant S_ .f32 0x3F800000#32)) YA)))
            (mulf Q (broadcastInDim S128x512x512 ![0, 1, 2] bcast_S1x512x1_S128x512x512_0_1_2 YA))))))))
    shapeCasts_S128x512x512x1x3_S128x512x512x3

/-- The result at a pixel whose two mixed entries and distance are real. -/
theorem resultArr_apply (P Q : FVec Ideal S128x512x512 .f32) (YA : FVec Ideal S1x512x1 .f32) (b : Fin 128) (y x : Fin 512)
    (d : Fin 3) (p q a : ℝ) (hp : P (ix3 b y x) = (p : EReal)) (hq : Q (ix3 b y x) = (q : EReal)) (ha : YA (ix3 0 y 0) = (a : EReal)) :
    (resultArr P Q YA (ix4 b y x d) : EReal) = ((clip255 (Ideal.roundHalfEven (p * (1 - a) + q * a)) : ℝ) : EReal) := by
  have h255 : (id (constant (F := Ideal) S_ .f32 0x437F0000#32) ix0 : EReal) = ((255 : ℝ) : EReal) := word_255
  have h0 : (id (constant (F := Ideal) S_ .f32 0x00000000#32) ix0 : EReal) = 0 := Ideal.ofBits_zero .f32
  clean_types
  pointwise [resultArr]
  rw [h255, h0, hp, hq, ha, ← EReal.coe_one, ← EReal.coe_sub, ← EReal.coe_mul, ← EReal.coe_mul, ← EReal.coe_add]
  exact clip_round _

variable (V : Valuation τ sig (Elt Ideal))

/-- A pixel's image number. -/
theorem image_apply (b : Fin 128) : (res_main_v86 (F := Ideal) V : S128x1x1.Idx → BitVec 32) (ix3 b 0 0) = BitVec.ofNat 32 b := by
  clean_types
  pointwise [res_main_v86]

section Pixel

variable (b : Fin 128) (y x : Fin 512)

/-- The tables of the first tile row, mixed along the row. -/
theorem top_apply : (res_main_v215 (F := Ideal) V : S128x512x512.Idx → EReal) (ix3 b y x)
    = (((lut (imgR V) b (clipTile (cell y)) (clipTile (cell x)) ⟨gray (imgR V) b y x, gray_lt _ b y x⟩ : ℝ) * (1 - frac x)
        + (lut (imgR V) b (clipTile (cell y)) (clipTile (cell x + 1)) ⟨gray (imgR V) b y x, gray_lt _ b y x⟩ : ℝ) * frac x : ℝ) : EReal) :=
  rowMix_apply
    (cornerArr (res_main_v58 V) (cornerIdx (res_main_v86 V) (res_main_v87 V) (res_main_v89 V) (res_main_v21 V)))
    (cornerArr (res_main_v58 V) (cornerIdx (res_main_v86 V) (res_main_v87 V) (res_main_v90 V) (res_main_v21 V)))
    (res_main_v207 V) b y x _ _ _
    ((corner_apply _ _ _ _ _ b y x _ _ ⟨_, gray_lt (imgR V) b y x⟩ (image_apply V b) (above_apply V y) (left_apply V x)
      (gray_apply V b y x)).trans (lut_apply V b _ _ _))
    ((corner_apply _ _ _ _ _ b y x _ _ ⟨_, gray_lt (imgR V) b y x⟩ (image_apply V b) (above_apply V y) (right_apply V x)
      (gray_apply V b y x)).trans (lut_apply V b _ _ _))
    (colFrac_apply V x)

/-- The tables of the second tile row, mixed along the row. -/
theorem bottom_apply : (res_main_v226 (F := Ideal) V : S128x512x512.Idx → EReal) (ix3 b y x)
    = (((lut (imgR V) b (clipTile (cell y + 1)) (clipTile (cell x)) ⟨gray (imgR V) b y x, gray_lt _ b y x⟩ : ℝ) * (1 - frac x)
        + (lut (imgR V) b (clipTile (cell y + 1)) (clipTile (cell x + 1)) ⟨gray (imgR V) b y x, gray_lt _ b y x⟩ : ℝ) * frac x : ℝ) : EReal) :=
  rowMix_apply
    (cornerArr (res_main_v58 V) (cornerIdx (res_main_v86 V) (res_main_v88 V) (res_main_v89 V) (res_main_v21 V)))
    (cornerArr (res_main_v58 V) (cornerIdx (res_main_v86 V) (res_main_v88 V) (res_main_v90 V) (res_main_v21 V)))
    (res_main_v207 V) b y x _ _ _
    ((corner_apply _ _ _ _ _ b y x _ _ ⟨_, gray_lt (imgR V) b y x⟩ (image_apply V b) (below_apply V y) (left_apply V x)
      (gray_apply V b y x)).trans (lut_apply V b _ _ _))
    ((corner_apply _ _ _ _ _ b y x _ _ ⟨_, gray_lt (imgR V) b y x⟩ (image_apply V b) (below_apply V y) (right_apply V x)
      (gray_apply V b y x)).trans (lut_apply V b _ _ _))
    (colFrac_apply V x)

/-- The reference's result at a pixel, in each channel. -/
theorem result_apply (d : Fin 3) :
    (resultArr (res_main_v215 V) (res_main_v226 V) (res_main_v208 V) (ix4 b y x d) : EReal)
      = ((out (imgR V) b y x : ℝ) : EReal) :=
  resultArr_apply _ _ _ b y x d _ _ _ (top_apply V b y x) (bottom_apply V b y x) (rowFrac_apply V y)

end Pixel

end Cert.ReferenceIdeal.Hand

end
-- ==== Proof.Equation.lean ====
module

public import proofs.«01_k».proof.Proof.KerRun
public import proofs.«01_k».proof.Proof.RefOut

@[expose] public section

/-! # The two results are equal

    From memories that agree on the image, the kernel and the reference end with the same grey levels. -/

noncomputable section

namespace Cert.Hand

open Cert.Clahe Idealize.ShloMosaic Idealize.ShloMosaic.StableHlo Idealize.SL.Sem

/-- The reference's run, with its result as the equalised image's array. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v234)
            = Cert.ReferenceIdeal.Hand.resultArr (Cert.ReferenceIdeal.Value.res_main_v215 (launchContents m c))
                (Cert.ReferenceIdeal.Value.res_main_v226 (launchContents m c))
                (Cert.ReferenceIdeal.Value.res_main_v208 (launchContents m c))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  Cert.ReferenceIdeal.Value.run m ρ

/-- Where the two programs' images agree, so do their results. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Hand.resultArr (Cert.ReferenceIdeal.Value.res_main_v215 (launchContents m' c))
        (Cert.ReferenceIdeal.Value.res_main_v226 (launchContents m' c))
        (Cert.ReferenceIdeal.Value.res_main_v208 (launchContents m' c)) : Cert.ReferenceIdeal.S128x512x512x3.Idx → EReal)
      = (Cert.KernelIdeal.Gen.W8 m ρ c (Proc.devRef .tc Cert.KernelIdeal.main_v24) : Cert.KernelIdeal.S128x512x512x3.Idx → EReal) := by
  have himg : Cert.ReferenceIdeal.Hand.imgR (launchContents m' c) = Cert.KernelIdeal.Hand.imgK m c := by
    funext b y x d
    exact congrFun h (ix4 b y x d)
  funext i
  obtain ⟨b, y, x, d, rfl⟩ : ∃ (b : Fin 128) (y x : Fin 512) (d : Fin 3), i = ix4 b y x d := ⟨i 0, i 1, i 2, i 3, by
    funext a
    match a with
    | ⟨0, _⟩ => rfl
    | ⟨1, _⟩ => rfl
    | ⟨2, _⟩ => rfl
    | ⟨3, _⟩ => rfl⟩
  refine (Cert.ReferenceIdeal.Hand.result_apply (launchContents m' c) b y x d).trans ?_
  rw [himg]
  exact (Cert.KernelIdeal.Hand.result_apply m ρ c b y x d).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The reference runs, leaves its argument as it was and every semaphore at zero. -/
theorem frame_reference : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.Hand.reference_run m g)

/-- The kernel's result and the reference's are equal as arrays of extended reals. -/
theorem algebraic : Cert.algebraic_KernelIdeal_ReferenceIdeal (hKernelIdeal := Cert.KernelIdeal.Gen.facts)
    (hReferenceIdeal := Cert.ReferenceIdeal.Gen.facts) := by
  intro m g m' g' _ hagree
  exact ⟨fun c => Cert.KernelIdeal.Gen.W8 m g c (Proc.devRef .tc Cert.KernelIdeal.main_v24),
    Cert.KernelIdeal.Hand.run_result m g,
    (θ_run _ _ _).mono (fun _ h c => ⟨(h c).1.trans (Cert.Hand.results_eq m g m' c (hagree c)), (h c).2⟩)
      (Cert.Hand.reference_run m' g')⟩

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, algebraic⟩

end Cert.Proof

end
